-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d" .f32 0x39924925#32 ((1 / 3584 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S40960x3584 : Shape := ⟨2, ![40960, 3584]⟩
abbrev S40960x1152 : Shape := ⟨2, ![40960, 1152]⟩
abbrev S1152x3584 : Shape := ⟨2, ![1152, 3584]⟩
abbrev S1x3584 : Shape := ⟨2, ![1, 3584]⟩
abbrev S256x3584 : Shape := ⟨2, ![256, 3584]⟩
abbrev S256x1152 : Shape := ⟨2, ![256, 1152]⟩
abbrev S256x128 : Shape := ⟨2, ![256, 128]⟩
abbrev S1152x256 : Shape := ⟨2, ![1152, 256]⟩
abbrev S8x3584 : Shape := ⟨2, ![8, 3584]⟩
abbrev S_ : Shape := ⟨0, ![]⟩
abbrev S16x128 : Shape := ⟨2, ![16, 128]⟩
abbrev S16 : Shape := ⟨1, ![16]⟩
abbrev S16x1 : Shape := ⟨2, ![16, 1]⟩
abbrev S128x256 : Shape := ⟨2, ![128, 256]⟩
abbrev S1152x512 : Shape := ⟨2, ![1152, 512]⟩
abbrev S256x512 : Shape := ⟨2, ![256, 512]⟩
abbrev S8x128 : Shape := ⟨2, ![8, 128]⟩
abbrev S256x256 : Shape := ⟨2, ![256, 256]⟩
abbrev S3584 : Shape := ⟨1, ![3584]⟩

abbrev nBuf : Space → Nat
  | .hbm => 7
  | .vmem => 14
  | .smem => 0
  | _ => 0

abbrev bufTy : (tb : Table) → Fin (tcTables nBuf tb) → BufTy
  | .hbm, ⟨0, _⟩ => ⟨S40960x3584, .bf16⟩
  | .hbm, ⟨1, _⟩ => ⟨S40960x1152, .bf16⟩
  | .hbm, ⟨2, _⟩ => ⟨S40960x1152, .bf16⟩
  | .hbm, ⟨3, _⟩ => ⟨S40960x3584, .bf16⟩
  | .hbm, ⟨4, _⟩ => ⟨S1152x3584, .bf16⟩
  | .hbm, ⟨5, _⟩ => ⟨S1152x3584, .f32⟩
  | .hbm, ⟨6, _⟩ => ⟨S1x3584, .f32⟩
  | .local _ .vmem, ⟨0, _⟩ => ⟨S256x3584, .bf16⟩
  | .local _ .vmem, ⟨1, _⟩ => ⟨S256x3584, .bf16⟩
  | .local _ .vmem, ⟨2, _⟩ => ⟨S256x1152, .bf16⟩
  | .local _ .vmem, ⟨3, _⟩ => ⟨S256x1152, .bf16⟩
  | .local _ .vmem, ⟨4, _⟩ => ⟨S256x1152, .bf16⟩
  | .local _ .vmem, ⟨5, _⟩ => ⟨S256x1152, .bf16⟩
  | .local _ .vmem, ⟨6, _⟩ => ⟨S256x3584, .bf16⟩
  | .local _ .vmem, ⟨7, _⟩ => ⟨S256x3584, .bf16⟩
  | .local _ .vmem, ⟨8, _⟩ => ⟨S1152x3584, .bf16⟩
  | .local _ .vmem, ⟨9, _⟩ => ⟨S1x3584, .f32⟩
  | .local _ .vmem, ⟨10, _⟩ => ⟨S1152x3584, .f32⟩
  | .local _ .vmem, ⟨11, _⟩ => ⟨S256x128, .f32⟩
  | .local _ .vmem, ⟨12, _⟩ => ⟨S1152x256, .bf16⟩
  | .local _ .vmem, ⟨13, _⟩ => ⟨S8x3584, .f32⟩
  | _, _ => ⟨S40960x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![160], ![false]⟩

def k0_cond2 (i : grid0.Coords) : BitVec 1 :=
  let arg0 : BitVec 32 := BitVec.ofNat 32 (i 0).val
  let c159_i32 : BitVec 32 := 159#32
  let v6741 : BitVec 1 := Scalar.cmpi .eq arg0 c159_i32
  let v6742 : BitVec 32 := Scalar.extui v6741
  let c0_i32_3035 : BitVec 32 := 0#32
  let v6743 : BitVec 1 := Scalar.cmpi .ne v6742 c0_i32_3035
  v6743

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1152x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "inv_d" => some ((1 / 3584 : ℝ) : EReal)
  | _ => none
-- ==== ReferenceIdeal.lean ====
abbrev S40960x3584 : Shape := ⟨2, ![40960, 3584]⟩
abbrev S40960x1152 : Shape := ⟨2, ![40960, 1152]⟩
abbrev S1152x3584 : Shape := ⟨2, ![1152, 3584]⟩
abbrev S_ : Shape := ⟨0, ![]⟩
abbrev S40960 : Shape := ⟨1, ![40960]⟩
abbrev S40960x1 : Shape := ⟨2, ![40960, 1]⟩
abbrev S3584 : Shape := ⟨1, ![3584]⟩
abbrev S1x3584 : Shape := ⟨2, ![1, 3584]⟩

abbrev nBuf : Space → Nat
  | .hbm => 25
  | .vmem => 0
  | .smem => 0
  | _ => 0

abbrev bufTy : (tb : Table) → Fin (tcTables nBuf tb) → BufTy
  | .hbm, ⟨0, _⟩ => ⟨S40960x3584, .bf16⟩
  | .hbm, ⟨1, _⟩ => ⟨S40960x1152, .bf16⟩
  | .hbm, ⟨2, _⟩ => ⟨S40960x1152, .bf16⟩
  | .hbm, ⟨3, _⟩ => ⟨S40960x3584, .bf16⟩
  | .hbm, ⟨4, _⟩ => ⟨S1152x3584, .bf16⟩
  | .hbm, ⟨5, _⟩ => ⟨S40960x3584, .f32⟩
  | .hbm, ⟨6, _⟩ => ⟨S40960x3584, .f32⟩
  | .hbm, ⟨7, _⟩ => ⟨S_, .f32⟩
  | .hbm, ⟨8, _⟩ => ⟨S40960, .f32⟩
  | .hbm, ⟨9, _⟩ => ⟨S40960x1, .f32⟩
  | .hbm, ⟨10, _⟩ => ⟨S_, .f32⟩
  | .hbm, ⟨11, _⟩ => ⟨S40960x1, .f32⟩
  | .hbm, ⟨12, _⟩ => ⟨S40960x1, .f32⟩
  | .hbm, ⟨13, _⟩ => ⟨S_, .f32⟩
  | .hbm, ⟨14, _⟩ => ⟨S40960x1, .f32⟩
  | .hbm, ⟨15, _⟩ => ⟨S40960x1, .f32⟩
  | .hbm, ⟨16, _⟩ => ⟨S40960x1, .f32⟩
  | .hbm, ⟨17, _⟩ => ⟨S40960x3584, .f32⟩
  | .hbm, ⟨18, _⟩ => ⟨S40960x3584, .f32⟩
  | .hbm, ⟨19, _⟩ => ⟨S40960x3584, .f32⟩
  | .hbm, ⟨20, _⟩ => ⟨S1152x3584, .f32⟩
  | .hbm, ⟨21, _⟩ => ⟨S40960x3584, .f32⟩
  | .hbm, ⟨22, _⟩ => ⟨S_, .f32⟩
  | .hbm, ⟨23, _⟩ => ⟨S3584, .f32⟩
  | .hbm, ⟨24, _⟩ => ⟨S1x3584, .f32⟩
  | _, _ => ⟨S40960x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Proof.RunIdeal.lean ====
/- The run of `KernelIdeal`: the generated frame of the program, stated in the same words, with the closing step of the region (`hout`)
   taken through `phi_eq`, a lemma over any point. -/
module

public import proofs.«01_k».proof.Proof.Gen.KernelIdeal.Frame.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (fw0 : HbBuf0 (F := F) c hbM0_0) : Vec F S1x3584 .f32 :=
  VO0_5.read (Elt F) (VO0_5.writes (Elt F) VO0_5.junk (kernelRun0_A c i arg1 harg1 arg2 harg2 arg3 harg3 arg4 harg4 arg5 harg5 arg7 harg7 arg8 harg8 arg9 harg9 arg10 harg10 arg11 harg11 hc0 hc1 x0 x1 x2 x3 x4 fw0).1)

/-- Case A's pieces for scratch `arg8`, which the kernel carries between points, cover it: one of them a store of the WHOLE buffer (Lib/Ring.lean `sl_whole_mem`). -/
theorem scover0_A_0 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (fw0 : HbBuf0 (F := F) c hbM0_0) (y : S1152x3584.Idx) :
    ∃ pc ∈ (kernelRun0_A c i arg1 harg1 arg2 harg2 arg3 harg3 arg4 harg4 arg5 harg5 arg7 harg7 arg8 harg8 arg9 harg9 arg10 harg10 arg11 harg11 hc0 hc1 x0 x1 x2 x3 x4 fw0).2.1, y ∈ pc.1.set :=
  View.cover_of_wholeMem (kernelRun0_A c i arg1 harg1 arg2 harg2 arg3 harg3 arg4 harg4 arg5 harg5 arg7 harg7 arg8 harg8 arg9 harg9 arg10 harg10 arg11 harg11 hc0 hc1 x0 x1 x2 x3 x4 fw0).2.1 (by sl_whole_mem) y

/-- What case A leaves in scratch `arg8`: its pieces read back over junk. -/
def sout0_A_0 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (fw0 : HbBuf0 (F := F) c hbM0_0) : Vec F S1152x3584 .f32 :=
  VS0_0.read (Elt F) (VS0_0.writes (Elt F) VS0_0.junk (kernelRun0_A c i arg1 harg1 arg2 harg2 arg3 harg3 arg4 harg4 arg5 harg5 arg7 harg7 arg8 harg8 arg9 harg9 arg10 harg10 arg11 harg11 hc0 hc1 x0 x1 x2 x3 x4 fw0).2.1)

/-- Case A's pieces for scratch `arg11`, which the kernel carries between points, cover it: one of them a store of the WHOLE buffer (Lib/Ring.lean `sl_whole_mem`). -/
theorem scover0_A_3 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (fw0 : HbBuf0 (F := F) c hbM0_0) (y : S8x3584.Idx) :
    ∃ pc ∈ (kernelRun0_A c i arg1 harg1 arg2 harg2 arg3 harg3 arg4 harg4 arg5 harg5 arg7 harg7 arg8 harg8 arg9 harg9 arg10 harg10 arg11 harg11 hc0 hc1 x0 x1 x2 x3 x4 fw0).2.2.1, y ∈ pc.1.set :=
  View.cover_of_wholeMem (kernelRun0_A c i arg1 harg1 arg2 harg2 arg3 harg3 arg4 harg4 arg5 harg5 arg7 harg7 arg8 harg8 arg9 harg9 arg10 harg10 arg11 harg11 hc0 hc1 x0 x1 x2 x3 x4 fw0).2.2.1 (by sl_whole_mem) y

/-- What case A leaves in scratch `arg11`: its pieces read back over junk. -/
def sout0_A_3 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (fw0 : HbBuf0 (F := F) c hbM0_0) : Vec F S8x3584 .f32 :=
  VS0_3.read (Elt F) (VS0_3.writes (Elt F) VS0_3.junk (kernelRun0_A c i arg1 harg1 arg2 harg2 arg3 harg3 arg4 harg4 arg5 harg5 arg7 harg7 arg8 harg8 arg9 harg9 arg10 harg10 arg11 harg11 hc0 hc1 x0 x1 x2 x3 x4 fw0).2.2.1)

/-- Case A copies nothing into `main_v0_0`: it holds the contents it started from (`fw0`), as the run
    hands them back. -/
def hbw0_A_0 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (fw0 : HbBuf0 (F := F) c hbM0_0) : HbBuf0 (F := F) c hbM0_0 := (kernelRun0_A c i arg1 harg1 arg2 harg2 arg3 harg3 arg4 harg4 arg5 harg5 arg7 harg7 arg8 harg8 arg9 harg9 arg10 harg10 arg11 harg11 hc0 hc1 x0 x1 x2 x3 x4 fw0).2.2.2.2.2.1

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) : Vec F S1x3584 .f32 :=
  VO0_5.read (Elt F) (VO0_5.writes (Elt F) VO0_5.junk (kernelRun0_B c i arg1 harg1 arg2 harg2 arg3 harg3 arg4 harg4 arg5 harg5 arg7 harg7 arg8 harg8 arg9 harg9 arg10 harg10 arg11 harg11 hc0 hc1 x0 x1 x2 x3 x4 xs0 xs3 fw0).1)

/-- Case B's pieces for scratch `arg8`, which the kernel carries between points, cover it: 14 pieces of `S1152x256` tiling it (Lib/Ring.lean `Piece.tiledL`). -/
theorem scover0_B_0 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) (y : S1152x3584.Idx) :
    ∃ pc ∈ (kernelRun0_B c i arg1 harg1 arg2 harg2 arg3 harg3 arg4 harg4 arg5 harg5 arg7 harg7 arg8 harg8 arg9 harg9 arg10 harg10 arg11 harg11 hc0 hc1 x0 x1 x2 x3 x4 xs0 xs3 fw0).2.1, y ∈ pc.1.set :=
  View.cover_of_tiledL (kernelRun0_B c i arg1 harg1 arg2 harg2 arg3 harg3 arg4 harg4 arg5 harg5 arg7 harg7 arg8 harg8 arg9 harg9 arg10 harg10 arg11 harg11 hc0 hc1 x0 x1 x2 x3 x4 xs0 xs3 fw0).2.1 S1152x256.size (by sl_kernel_rfl) y

/-- What case B leaves in scratch `arg8`: its pieces read back over junk. -/
def sout0_B_0 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) : Vec F S1152x3584 .f32 :=
  VS0_0.read (Elt F) (VS0_0.writes (Elt F) VS0_0.junk (kernelRun0_B c i arg1 harg1 arg2 harg2 arg3 harg3 arg4 harg4 arg5 harg5 arg7 harg7 arg8 harg8 arg9 harg9 arg10 harg10 arg11 harg11 hc0 hc1 x0 x1 x2 x3 x4 xs0 xs3 fw0).2.1)

/-- Case B's pieces for scratch `arg11`, which the kernel carries between points, cover it: 28 pieces of `S8x128` tiling it (Lib/Ring.lean `Piece.tiledL`). -/
theorem scover0_B_3 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) (y : S8x3584.Idx) :
    ∃ pc ∈ (kernelRun0_B c i arg1 harg1 arg2 harg2 arg3 harg3 arg4 harg4 arg5 harg5 arg7 harg7 arg8 harg8 arg9 harg9 arg10 harg10 arg11 harg11 hc0 hc1 x0 x1 x2 x3 x4 xs0 xs3 fw0).2.2.1, y ∈ pc.1.set :=
  View.cover_of_tiledL (kernelRun0_B c i arg1 harg1 arg2 harg2 arg3 harg3 arg4 harg4 arg5 harg5 arg7 harg7 arg8 harg8 arg9 harg9 arg10 harg10 arg11 harg11 hc0 hc1 x0 x1 x2 x3 x4 xs0 xs3 fw0).2.2.1 S8x128.size (by sl_kernel_rfl) y

/-- What case B leaves in scratch `arg11`: its pieces read back over junk. -/
def sout0_B_3 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) : Vec F S8x3584 .f32 :=
  VS0_3.read (Elt F) (VS0_3.writes (Elt F) VS0_3.junk (kernelRun0_B c i arg1 harg1 arg2 harg2 arg3 harg3 arg4 harg4 arg5 harg5 arg7 harg7 arg8 harg8 arg9 harg9 arg10 harg10 arg11 harg11 hc0 hc1 x0 x1 x2 x3 x4 xs0 xs3 fw0).2.2.1)

/-- Case B copies nothing into `main_v0_0`: it holds the contents it started from (`fw0`), as the run
    hands them back. -/
def hbw0_B_0 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) : HbBuf0 (F := F) c hbM0_0 := (kernelRun0_B c i arg1 harg1 arg2 harg2 arg3 harg3 arg4 harg4 arg5 harg5 arg7 harg7 arg8 harg8 arg9 harg9 arg10 harg10 arg11 harg11 hc0 hc1 x0 x1 x2 x3 x4 xs0 xs3 fw0).2.2.2.2.2.1

/-- Case C's pieces for output 5 tile its block (1 store of `S1x3584`, checked by the kernel's evaluation: Lib/Ring.lean `Piece.tiledL`, linear in the pieces, through a loop's `@[irreducible]` trip theorem too), so they cover it. -/
theorem cover0_C_5 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) (y : S1x3584.Idx) :
    ∃ pc ∈ (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).1, y ∈ pc.1.set :=
  View.cover_of_tiledL (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).1 S1x3584.size (by sl_kernel_rfl) y

/-- What case C leaves in output 5's staging buffer: its pieces read back over junk. -/
def out0_C_5 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) : Vec F S1x3584 .f32 :=
  VO0_5.read (Elt F) (VO0_5.writes (Elt F) VO0_5.junk (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).1)

/-- Case C's pieces for scratch `arg8`, which the kernel carries between points, cover it: 14 pieces of `S1152x256` tiling it (Lib/Ring.lean `Piece.tiledL`). -/
theorem scover0_C_0 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) (y : S1152x3584.Idx) :
    ∃ pc ∈ (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).2.1, y ∈ pc.1.set :=
  View.cover_of_tiledL (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).2.1 S1152x256.size (by sl_kernel_rfl) y

/-- What case C leaves in scratch `arg8`: its pieces read back over junk. -/
def sout0_C_0 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) : Vec F S1152x3584 .f32 :=
  VS0_0.read (Elt F) (VS0_0.writes (Elt F) VS0_0.junk (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).2.1)

/-- Case C's pieces for scratch `arg11`, which the kernel carries between points, cover it: 28 pieces of `S8x128` tiling it (Lib/Ring.lean `Piece.tiledL`). -/
theorem scover0_C_3 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) (y : S8x3584.Idx) :
    ∃ pc ∈ (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).2.2.1, y ∈ pc.1.set :=
  View.cover_of_tiledL (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).2.2.1 S8x128.size (by sl_kernel_rfl) y

/-- What case C leaves in scratch `arg11`: its pieces read back over junk. -/
def sout0_C_3 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) : Vec F S8x3584 .f32 :=
  VS0_3.read (Elt F) (VS0_3.writes (Elt F) VS0_3.junk (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).2.2.1)

/-- What case C leaves in `main_v0_0`, the result left in HBM its copies out of scratch write: the contents
    it started from (`fw0`: what the point before left there, at the first point the launch's) with those copies written over
    them — the contents term the run finds, its witness. -/
def hbw0_C_0 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) : HbBuf0 (F := F) c hbM0_0 := (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).2.2.2.2.2.1

/-! ## What the outputs hold after each point -/

/-- THE ACCUMULATION. What the outputs' staging buffers and the scratch the kernel carries between points and the results its copies out write hold after the body at position `n` (a tuple: the outputs in window order, then the scratch, then the results held by value):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x3584 .f32 × Vec F S1152x3584 .f32 × Vec F S8x3584 .f32 × HbBuf0 (F := F) c hbM0_0
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v0_0), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v0_0), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v0_0), hbw0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v0_0))
  | n + 1, hn =>
    if h0 : (n + 1) % 160 = 0 then
      if h1 : (n + 1) % 160 = 159 then
        False.elim (by have hN : n + 1 < 160 := lt_of_lt_of_eq hn (show cfg0.N = 160 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v0_0), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v0_0), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v0_0), hbw0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v0_0))
    else
      if h1 : (n + 1) % 160 = 159 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, hbw0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, hbw0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 160 = 0) (h1 : ¬t.val % 160 = 159) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (V m c main_v0_0), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (V m c main_v0_0), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (V m c main_v0_0), hbw0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (V m c main_v0_0)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 160 = 0) (h1 : ¬t.val % 160 = 159) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, hbw0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 160 = 0) (h1 : t.val % 160 = 159) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, hbw0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (Lib/Pipeline/FrameValue.lean `ΦDRG`: every scratch at anything, the own cells at zero, the HBM operands read, those written at their launch contents, the generator register); afterwards the same with each carried
    scratch at what the point before left in it (`outsAt0`'s scratch components) and each result held by value at its `outsAt0` component, the others at anything. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).2.1) ∗ (∃ d, owns (c : Thread nD τ) scM0_1 fullShare d) ∗ (∃ d, owns (c : Thread nD τ) scM0_2 fullShare d) ∗ owns (c : Thread nD τ) scM0_3 fullShare ((outsAt0 m c n hn).2.2.1)) ∗ (∃ r, prngReg c r) ∗ iprop(semVal ((c : Thread nD τ), SemLoc.dma 10) 0) ∗ iprop(emp) ∗ iprop(hbPt0 c hbM0_0 ((outsAt0 m c n hn).2.2.2)))

theorem PhiS_zero (c : Dev nD) (n : ℕ) (h : n ≤ cfg0.N) (hz : n = 0) : PhiS m c n h = Pipeline.ΦDRG osem0 spec0 H0 R0 (V m) (V m) c := by
  subst hz; rfl

/-- After point `n` (before point `n + 1`): the carried scratch and each result held by value at that point's contents. -/
theorem PhiS_succ (c : Dev nD) (n : ℕ) (hn : n < cfg0.N) :
    PhiS m c (n + 1) hn = iprop(iprop(owns (c : Thread nD τ) scM0_0 fullShare ((outsAt0 m c n hn).2.1) ∗ (∃ d, owns (c : Thread nD τ) scM0_1 fullShare d) ∗ (∃ d, owns (c : Thread nD τ) scM0_2 fullShare d) ∗ owns (c : Thread nD τ) scM0_3 fullShare ((outsAt0 m c n hn).2.2.1)) ∗ (∃ r, prngReg c r) ∗ iprop(semVal ((c : Thread nD τ), SemLoc.dma 10) 0) ∗ iprop(emp) ∗ iprop(hbPt0 c hbM0_0 ((outsAt0 m c n hn).2.2.2))) := rfl

/-- Before a point that is not the first: the carried scratch and each result held by value at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ (∃ d, owns (c : Thread nD τ) scM0_1 fullShare d) ∗ (∃ d, owns (c : Thread nD τ) scM0_2 fullShare d) ∗ owns (c : Thread nD τ) scM0_3 fullShare ((outsAt0 m c (n - 1) (by omega)).2.2.1)) ∗ (∃ r, prngReg c r) ∗ iprop(semVal ((c : Thread nD τ), SemLoc.dma 10) 0) ∗ iprop(emp) ∗ iprop(hbPt0 c hbM0_0 ((outsAt0 m c (n - 1) (by omega)).2.2.2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (`PhiS`: Lib/Pipeline/FrameValue.lean `ΦDRG` before the first point — the scoped rest, the generator register, the own cells at zero,
    the HBM operands read and those written at their launch contents —, then the same with each written operand and each carried scratch
    at `outsAt0`'s component for the point before); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the inputs' memrefs hold their blocks (`before0_W`); the closed forms say which case the point is in (`by_cases`), an output the case reads before covering holds what the point before left (`before0_W_κ`); so the
    run applies; the invariant hands the body the carried scratch and each result its copies out write at what the point before left (`PhiS_pos`; at the first point the scratch at anything and the result at its launch contents, `PhiS_zero` opened by `PhiDRG0_in_eq`), the other scratch at anything, the register, its DMA cells at zero and the HBM operands it reads, and takes both back at this point's contents (`PhiS_succ`: a written result as the run's witness `hbw0_κ_N`, the scratch by `scover0_κ_N`), the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 160 := lt_of_lt_of_eq t.isLt (show cfg0.N = 160 from N_0)
  by_cases h0 : t.val % 160 = 0
  · by_cases h1 : t.val % 160 = 159
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      by_cases hz : t.val = 0
      · rw [PhiS_castSucc m c t, PhiS_zero m c _ _ hz, PhiDRG0_in_eq]
        rw [outsAt0_A m c t h0 h1]
        unfold sout0_A_0 sout0_A_3 hbw0_A_0; (try dsimp only)
        iintro ⟨⟨⟨HS0, HS1, HS2, HS3⟩, Hg, Hq0, -, Hh0⟩, ⟨%W, -, HW⟩, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _).2.2.2.2.2.2 _ W _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        isplitl [Hq0]; · iexact Hq0
        isplitl [Hh0]; · iexact Hh0
        isplitl [HW]; · iexact HW
        iintro ⟨H0, H1, H2, H3, H4, H5, ⟨%es0, HS0⟩, ⟨%fT1, HS1⟩, ⟨%fT2, HS2⟩, ⟨%es3, HS3⟩, Hq0, Hh0, ⟨%W', HW'⟩⟩
        isplitl [HS0 HS1 HS2 HS3 Hg Hq0 Hh0]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _)
          isplitl [Hg]
          · iexact Hg
          isplitl [Hq0]
          · iexact Hq0
          isplitr; · iempintro
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        iexists _; iexact H5
      · exfalso; have hN : t.val < 160 := lt_of_lt_of_eq t.isLt (show cfg0.N = 160 from N_0); omega
  · by_cases h1 : t.val % 160 = 159
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      by_cases hz : t.val = 0
      · exfalso; have hN : t.val < 160 := lt_of_lt_of_eq t.isLt (show cfg0.N = 160 from N_0); omega
      · rw [PhiS_castSucc m c t, PhiS_pos m c _ _ hz]
        rw [outsAt0_C m c t h0 h1]
        unfold out0_C_5 sout0_C_0 sout0_C_3 hbw0_C_0; (try dsimp only)
        iintro ⟨⟨⟨HS0, HS1, HS2, HS3⟩, Hg, Hq0, -, Hh0⟩, ⟨%W, -, HW⟩, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _).2.2.2.2.2.2 W _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        isplitl [Hq0]; · iexact Hq0
        isplitl [Hh0]; · iexact Hh0
        isplitl [HW]; · iexact HW
        iintro ⟨H0, H1, H2, H3, H4, ⟨%e5, H5⟩, ⟨%es0, HS0⟩, ⟨%fT1, HS1⟩, ⟨%fT2, HS2⟩, ⟨%es3, HS3⟩, Hq0, Hh0, ⟨%W', HW'⟩⟩
        isplitl [HS0 HS1 HS2 HS3 Hg Hq0 Hh0]
        · isplitl [HS0 HS1 HS2 HS3]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _)
          isplitl [Hg]
          · iexact Hg
          isplitl [Hq0]
          · iexact Hq0
          isplitr; · iempintro
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      by_cases hz : t.val = 0
      · exfalso; have hN : t.val < 160 := lt_of_lt_of_eq t.isLt (show cfg0.N = 160 from N_0); omega
      · rw [PhiS_castSucc m c t, PhiS_pos m c _ _ hz]
        rw [outsAt0_B m c t h0 h1]
        unfold sout0_B_0 sout0_B_3 hbw0_B_0; (try dsimp only)
        iintro ⟨⟨⟨HS0, HS1, HS2, HS3⟩, Hg, Hq0, -, Hh0⟩, ⟨%W, -, HW⟩, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ _).2.2.2.2.2.2 _ W _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        isplitl [Hq0]; · iexact Hq0
        isplitl [Hh0]; · iexact Hh0
        isplitl [HW]; · iexact HW
        iintro ⟨H0, H1, H2, H3, H4, H5, ⟨%es0, HS0⟩, ⟨%fT1, HS1⟩, ⟨%fT2, HS2⟩, ⟨%es3, HS3⟩, Hq0, Hh0, ⟨%W', HW'⟩⟩
        isplitl [HS0 HS1 HS2 HS3 Hg Hq0 Hh0]
        · isplitl [HS0 HS1 HS2 HS3]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _)
          isplitl [Hg]
          · iexact Hg
          isplitl [Hq0]
          · iexact Hq0
          isplitr; · iempintro
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The results the body's copies out write, AFTER THE LAST POINT, as a valuation of the unscoped buffers: the launch contents,
    updated at each written operand with `outsAt0`'s component for the last point — what the launch takes back from the region
    (Lib/Pipeline/FrameValue.lean `θ_run_frame_dmaRG`'s `G`) and its post states of them. -/
def hbG0 (c : Dev nD) : (b : Ref sig .tc) → Buf (Elt F) ((c : Thread nD τ).loc b) :=
  Function.update ((V m) c) main_v0_0 (outsAt0 m c ((Fin.last cfg0.N).val - 1) (by rw [Fin.val_last]; have : cfg0.N = 160 := N_0; omega)).2.2.2
/-- `hbG0` at `main_v0_0`: `outsAt0`'s component. -/
theorem hbG0_0 (c : Dev nD) : hbG0 m c main_v0_0 = (outsAt0 m c ((Fin.last cfg0.N).val - 1) (by rw [Fin.val_last]; have : cfg0.N = 160 := N_0; omega)).2.2.2 := by
  unfold hbG0; simp only [Function.update_self]
/-- The written operands' points-tos after the last point (`Pipeline.routed` at `hbG`), listed: how the launch takes them back. -/
theorem heldG0_eq (c : Dev nD) :
    (Pipeline.routed R0 c (hbG0 m c) : sProp 𝕄) = iprop(hbPt0 c hbM0_0 ((outsAt0 m c ((Fin.last cfg0.N).val - 1) (by rw [Fin.val_last]; have : cfg0.N = 160 := N_0; omega)).2.2.2)) := by
  unfold Pipeline.routed; rw [BI.bigSep_eq_bigSepL_of_eq [main_v0_0] (by decide) (by decide)]
  simp only [BI.bigSepL_singleton, hbG0_0]; try rfl
/-- The invariant AFTER THE LAST POINT, `Pipeline.ΦDRG` at the launch contents and `hbG0`, conjunct by conjunct: what the launch takes back. -/
theorem PhiDRG0_out_eq (c : Dev nD) :
    (Pipeline.ΦDRG osem0 spec0 H0 R0 (V m) (hbG0 m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 10) 0) ∗ iprop(emp) ∗ iprop(hbPt0 c hbM0_0 ((outsAt0 m c ((Fin.last cfg0.N).val - 1) (by rw [Fin.val_last]; have : cfg0.N = 160 := N_0; omega)).2.2.2))) := by
  rw [Pipeline.ΦDRG_eq, scopedRest0_eq, ownSems00_eq, hbmPts0_eq, heldG0_eq]; simp only [scM0_0, scM0_1, scM0_2, scM0_3, owns_whole]; try rfl

/-- What the launch hands the region (`ΦDRG`) is the invariant before the first point. -/
theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _

/-- The region's invariant before any point. -/
theorem phi_eq (c : Dev nD) (k : Fin (cfg0.N + 1)) : (dats m 0 c).Φ k = PhiS m c k.val (Nat.le_of_lt_succ k.isLt) := rfl

/-- After the last point the invariant gives `ΦDRG` back with each result the copies out write at what that point left in it (`hbG0`);
    the carried scratch's named contents are forgotten. -/
theorem hout (c : Dev nD) : (dats m 0 c).Φ (Fin.last cfg0.N) ⊢ Pipeline.ΦDRG osem0 spec0 H0 R0 (V m) (hbG0 m) c := by
  rw [phi_eq m c,
    PhiS_pos m c _ _ (by rw [Fin.val_last]; have : cfg0.N = 160 := N_0; omega), PhiDRG0_out_eq]
  iintro ⟨⟨HS0, HS1, HS2, HS3⟩, Hg, Hq0, Hh0⟩
  isplitl [HS0 HS1 HS2 HS3]
  · isplitl [HS0]
    · iexists _; iexact HS0
    isplitl [HS1]
    · iexact HS1
    isplitl [HS2]
    · iexact HS2
    iexists _; iexact HS3
  isplitl [Hg]; · iexact Hg
  isplitl [Hq0]
  · iexact Hq0
  iexact Hh0

/-! ## The run and the frame -/

-- `θ_run_frame_dmaRG`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePostRG cfgs (dats m) 0 R0 (V m) (hbG0 m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := hbG0 m)
    (hin := hin m) (hout := hout m)

/-- At the compiled mesh, for any values, from any memory with zero counters: every weakly fair execution of @main on the
    TensorCores terminates, and every final state has every array of the pipeline at what the library computes from the
    proof data, every result the body's copies out write (`R0`) at what the last point left in it (`hbG0`), and every other unscoped
    buffer at its region-entry contents (Lib/Pipeline/FrameValue.lean `FramePostRG`). -/
theorem run_main : θ_run defs (onTc (τ := τ) (main (F := F))) (s₀ m ρ) (Pipeline.FramePostRG cfgs (dats m) 0 R0 (V m) (hbG0 m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.toR) (run_main m ρ))

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.RunBits.lean ====
/- The run of `Kernel`: the generated frame of the program, stated in the same words, with the closing step of the region (`hout`)
   taken through `phi_eq`, a lemma over any point. -/
module

public import proofs.«01_k».proof.Proof.Gen.Kernel.Frame.RunC
public import proofs.«01_k».proof.Proof.RunIdeal
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (fw0 : HbBuf0 (F := F) c hbM0_0) : Vec F S1x3584 .f32 :=
  VO0_5.read (Elt F) (VO0_5.writes (Elt F) VO0_5.junk (kernelRun0_A c i arg1 harg1 arg2 harg2 arg3 harg3 arg4 harg4 arg5 harg5 arg7 harg7 arg8 harg8 arg9 harg9 arg10 harg10 arg11 harg11 hc0 hc1 x0 x1 x2 x3 x4 fw0).1)

/-- Case A's pieces for scratch `arg8`, which the kernel carries between points, cover it: one of them a store of the WHOLE buffer (Lib/Ring.lean `sl_whole_mem`). -/
theorem scover0_A_0 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (fw0 : HbBuf0 (F := F) c hbM0_0) (y : S1152x3584.Idx) :
    ∃ pc ∈ (kernelRun0_A c i arg1 harg1 arg2 harg2 arg3 harg3 arg4 harg4 arg5 harg5 arg7 harg7 arg8 harg8 arg9 harg9 arg10 harg10 arg11 harg11 hc0 hc1 x0 x1 x2 x3 x4 fw0).2.1, y ∈ pc.1.set :=
  View.cover_of_wholeMem (kernelRun0_A c i arg1 harg1 arg2 harg2 arg3 harg3 arg4 harg4 arg5 harg5 arg7 harg7 arg8 harg8 arg9 harg9 arg10 harg10 arg11 harg11 hc0 hc1 x0 x1 x2 x3 x4 fw0).2.1 (by sl_whole_mem) y

/-- What case A leaves in scratch `arg8`: its pieces read back over junk. -/
def sout0_A_0 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (fw0 : HbBuf0 (F := F) c hbM0_0) : Vec F S1152x3584 .f32 :=
  VS0_0.read (Elt F) (VS0_0.writes (Elt F) VS0_0.junk (kernelRun0_A c i arg1 harg1 arg2 harg2 arg3 harg3 arg4 harg4 arg5 harg5 arg7 harg7 arg8 harg8 arg9 harg9 arg10 harg10 arg11 harg11 hc0 hc1 x0 x1 x2 x3 x4 fw0).2.1)

/-- Case A's pieces for scratch `arg11`, which the kernel carries between points, cover it: one of them a store of the WHOLE buffer (Lib/Ring.lean `sl_whole_mem`). -/
theorem scover0_A_3 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (fw0 : HbBuf0 (F := F) c hbM0_0) (y : S8x3584.Idx) :
    ∃ pc ∈ (kernelRun0_A c i arg1 harg1 arg2 harg2 arg3 harg3 arg4 harg4 arg5 harg5 arg7 harg7 arg8 harg8 arg9 harg9 arg10 harg10 arg11 harg11 hc0 hc1 x0 x1 x2 x3 x4 fw0).2.2.1, y ∈ pc.1.set :=
  View.cover_of_wholeMem (kernelRun0_A c i arg1 harg1 arg2 harg2 arg3 harg3 arg4 harg4 arg5 harg5 arg7 harg7 arg8 harg8 arg9 harg9 arg10 harg10 arg11 harg11 hc0 hc1 x0 x1 x2 x3 x4 fw0).2.2.1 (by sl_whole_mem) y

/-- What case A leaves in scratch `arg11`: its pieces read back over junk. -/
def sout0_A_3 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (fw0 : HbBuf0 (F := F) c hbM0_0) : Vec F S8x3584 .f32 :=
  VS0_3.read (Elt F) (VS0_3.writes (Elt F) VS0_3.junk (kernelRun0_A c i arg1 harg1 arg2 harg2 arg3 harg3 arg4 harg4 arg5 harg5 arg7 harg7 arg8 harg8 arg9 harg9 arg10 harg10 arg11 harg11 hc0 hc1 x0 x1 x2 x3 x4 fw0).2.2.1)

/-- Case A copies nothing into `main_v0_0`: it holds the contents it started from (`fw0`), as the run
    hands them back. -/
def hbw0_A_0 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (fw0 : HbBuf0 (F := F) c hbM0_0) : HbBuf0 (F := F) c hbM0_0 := (kernelRun0_A c i arg1 harg1 arg2 harg2 arg3 harg3 arg4 harg4 arg5 harg5 arg7 harg7 arg8 harg8 arg9 harg9 arg10 harg10 arg11 harg11 hc0 hc1 x0 x1 x2 x3 x4 fw0).2.2.2.2.2.1

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) : Vec F S1x3584 .f32 :=
  VO0_5.read (Elt F) (VO0_5.writes (Elt F) VO0_5.junk (kernelRun0_B c i arg1 harg1 arg2 harg2 arg3 harg3 arg4 harg4 arg5 harg5 arg7 harg7 arg8 harg8 arg9 harg9 arg10 harg10 arg11 harg11 hc0 hc1 x0 x1 x2 x3 x4 xs0 xs3 fw0).1)

/-- Case B's pieces for scratch `arg8`, which the kernel carries between points, cover it: 14 pieces of `S1152x256` tiling it (Lib/Ring.lean `Piece.tiledL`). -/
theorem scover0_B_0 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) (y : S1152x3584.Idx) :
    ∃ pc ∈ (kernelRun0_B c i arg1 harg1 arg2 harg2 arg3 harg3 arg4 harg4 arg5 harg5 arg7 harg7 arg8 harg8 arg9 harg9 arg10 harg10 arg11 harg11 hc0 hc1 x0 x1 x2 x3 x4 xs0 xs3 fw0).2.1, y ∈ pc.1.set :=
  View.cover_of_tiledL (kernelRun0_B c i arg1 harg1 arg2 harg2 arg3 harg3 arg4 harg4 arg5 harg5 arg7 harg7 arg8 harg8 arg9 harg9 arg10 harg10 arg11 harg11 hc0 hc1 x0 x1 x2 x3 x4 xs0 xs3 fw0).2.1 S1152x256.size (by sl_kernel_rfl) y

/-- What case B leaves in scratch `arg8`: its pieces read back over junk. -/
def sout0_B_0 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) : Vec F S1152x3584 .f32 :=
  VS0_0.read (Elt F) (VS0_0.writes (Elt F) VS0_0.junk (kernelRun0_B c i arg1 harg1 arg2 harg2 arg3 harg3 arg4 harg4 arg5 harg5 arg7 harg7 arg8 harg8 arg9 harg9 arg10 harg10 arg11 harg11 hc0 hc1 x0 x1 x2 x3 x4 xs0 xs3 fw0).2.1)

/-- Case B's pieces for scratch `arg11`, which the kernel carries between points, cover it: 28 pieces of `S8x128` tiling it (Lib/Ring.lean `Piece.tiledL`). -/
theorem scover0_B_3 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) (y : S8x3584.Idx) :
    ∃ pc ∈ (kernelRun0_B c i arg1 harg1 arg2 harg2 arg3 harg3 arg4 harg4 arg5 harg5 arg7 harg7 arg8 harg8 arg9 harg9 arg10 harg10 arg11 harg11 hc0 hc1 x0 x1 x2 x3 x4 xs0 xs3 fw0).2.2.1, y ∈ pc.1.set :=
  View.cover_of_tiledL (kernelRun0_B c i arg1 harg1 arg2 harg2 arg3 harg3 arg4 harg4 arg5 harg5 arg7 harg7 arg8 harg8 arg9 harg9 arg10 harg10 arg11 harg11 hc0 hc1 x0 x1 x2 x3 x4 xs0 xs3 fw0).2.2.1 S8x128.size (by sl_kernel_rfl) y

/-- What case B leaves in scratch `arg11`: its pieces read back over junk. -/
def sout0_B_3 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) : Vec F S8x3584 .f32 :=
  VS0_3.read (Elt F) (VS0_3.writes (Elt F) VS0_3.junk (kernelRun0_B c i arg1 harg1 arg2 harg2 arg3 harg3 arg4 harg4 arg5 harg5 arg7 harg7 arg8 harg8 arg9 harg9 arg10 harg10 arg11 harg11 hc0 hc1 x0 x1 x2 x3 x4 xs0 xs3 fw0).2.2.1)

/-- Case B copies nothing into `main_v0_0`: it holds the contents it started from (`fw0`), as the run
    hands them back. -/
def hbw0_B_0 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : ¬cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) : HbBuf0 (F := F) c hbM0_0 := (kernelRun0_B c i arg1 harg1 arg2 harg2 arg3 harg3 arg4 harg4 arg5 harg5 arg7 harg7 arg8 harg8 arg9 harg9 arg10 harg10 arg11 harg11 hc0 hc1 x0 x1 x2 x3 x4 xs0 xs3 fw0).2.2.2.2.2.1

/-- Case C's pieces for output 5 tile its block (1 store of `S1x3584`, checked by the kernel's evaluation: Lib/Ring.lean `Piece.tiledL`, linear in the pieces, through a loop's `@[irreducible]` trip theorem too), so they cover it. -/
theorem cover0_C_5 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) (y : S1x3584.Idx) :
    ∃ pc ∈ (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).1, y ∈ pc.1.set :=
  View.cover_of_tiledL (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).1 S1x3584.size (by sl_kernel_rfl) y

/-- What case C leaves in output 5's staging buffer: its pieces read back over junk. -/
def out0_C_5 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) : Vec F S1x3584 .f32 :=
  VO0_5.read (Elt F) (VO0_5.writes (Elt F) VO0_5.junk (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).1)

/-- Case C's pieces for scratch `arg8`, which the kernel carries between points, cover it: 14 pieces of `S1152x256` tiling it (Lib/Ring.lean `Piece.tiledL`). -/
theorem scover0_C_0 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) (y : S1152x3584.Idx) :
    ∃ pc ∈ (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).2.1, y ∈ pc.1.set :=
  View.cover_of_tiledL (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).2.1 S1152x256.size (by sl_kernel_rfl) y

/-- What case C leaves in scratch `arg8`: its pieces read back over junk. -/
def sout0_C_0 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) : Vec F S1152x3584 .f32 :=
  VS0_0.read (Elt F) (VS0_0.writes (Elt F) VS0_0.junk (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).2.1)

/-- Case C's pieces for scratch `arg11`, which the kernel carries between points, cover it: 28 pieces of `S8x128` tiling it (Lib/Ring.lean `Piece.tiledL`). -/
theorem scover0_C_3 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) (y : S8x3584.Idx) :
    ∃ pc ∈ (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).2.2.1, y ∈ pc.1.set :=
  View.cover_of_tiledL (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).2.2.1 S8x128.size (by sl_kernel_rfl) y

/-- What case C leaves in scratch `arg11`: its pieces read back over junk. -/
def sout0_C_3 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) : Vec F S8x3584 .f32 :=
  VS0_3.read (Elt F) (VS0_3.writes (Elt F) VS0_3.junk (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).2.2.1)

/-- What case C leaves in `main_v0_0`, the result left in HBM its copies out of scratch write: the contents
    it started from (`fw0`: what the point before left there, at the first point the launch's) with those copies written over
    them — the contents term the run finds, its witness. -/
def hbw0_C_0 (c : Dev nD) (i : grid0.Coords) (arg1 : Memref sig .tc .vmem S256x3584 .bf16) (harg1 : arg1.IsWhole) (arg2 : Memref sig .tc .vmem S256x1152 .bf16) (harg2 : arg2.IsWhole) (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole) (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole) (arg10 : Memref sig .tc .vmem S1152x256 .bf16) (harg10 : arg10.IsWhole) (arg11 : Memref sig .tc .vmem S8x3584 .f32) (harg11 : arg11.IsWhole) (hc0 : ¬cond0_0 i) (hc1 : cond0_1 i)
    (x0 : Vec F S256x3584 .bf16) (x1 : Vec F S256x1152 .bf16) (x2 : Vec F S256x1152 .bf16) (x3 : Vec F S256x3584 .bf16) (x4 : Vec F S1152x3584 .bf16) (xs0 : Vec F S1152x3584 .f32) (xs3 : Vec F S8x3584 .f32) (fw0 : HbBuf0 (F := F) c hbM0_0) : HbBuf0 (F := F) c hbM0_0 := (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).2.2.2.2.2.1

/-! ## What the outputs hold after each point -/

/-- THE ACCUMULATION. What the outputs' staging buffers and the scratch the kernel carries between points and the results its copies out write hold after the body at position `n` (a tuple: the outputs in window order, then the scratch, then the results held by value):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x3584 .f32 × Vec F S1152x3584 .f32 × Vec F S8x3584 .f32 × HbBuf0 (F := F) c hbM0_0
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v0_0), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v0_0), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v0_0), hbw0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v0_0))
  | n + 1, hn =>
    if h0 : (n + 1) % 160 = 0 then
      if h1 : (n + 1) % 160 = 159 then
        False.elim (by have hN : n + 1 < 160 := lt_of_lt_of_eq hn (show cfg0.N = 160 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v0_0), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v0_0), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v0_0), hbw0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v0_0))
    else
      if h1 : (n + 1) % 160 = 159 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, hbw0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2, hbw0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 160 = 0) (h1 : ¬t.val % 160 = 159) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (V m c main_v0_0), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (V m c main_v0_0), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (V m c main_v0_0), hbw0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (V m c main_v0_0)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 160 = 0) (h1 : ¬t.val % 160 = 159) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, hbw0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 160 = 0) (h1 : t.val % 160 = 159) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, hbw0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (Lib/Pipeline/FrameValue.lean `ΦDRG`: every scratch at anything, the own cells at zero, the HBM operands read, those written at their launch contents, the generator register); afterwards the same with each carried
    scratch at what the point before left in it (`outsAt0`'s scratch components) and each result held by value at its `outsAt0` component, the others at anything. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).2.1) ∗ (∃ d, owns (c : Thread nD τ) scM0_1 fullShare d) ∗ (∃ d, owns (c : Thread nD τ) scM0_2 fullShare d) ∗ owns (c : Thread nD τ) scM0_3 fullShare ((outsAt0 m c n hn).2.2.1)) ∗ (∃ r, prngReg c r) ∗ iprop(semVal ((c : Thread nD τ), SemLoc.dma 10) 0) ∗ iprop(emp) ∗ iprop(hbPt0 c hbM0_0 ((outsAt0 m c n hn).2.2.2)))

theorem PhiS_zero (c : Dev nD) (n : ℕ) (h : n ≤ cfg0.N) (hz : n = 0) : PhiS m c n h = Pipeline.ΦDRG osem0 spec0 H0 R0 (V m) (V m) c := by
  subst hz; rfl

/-- After point `n` (before point `n + 1`): the carried scratch and each result held by value at that point's contents. -/
theorem PhiS_succ (c : Dev nD) (n : ℕ) (hn : n < cfg0.N) :
    PhiS m c (n + 1) hn = iprop(iprop(owns (c : Thread nD τ) scM0_0 fullShare ((outsAt0 m c n hn).2.1) ∗ (∃ d, owns (c : Thread nD τ) scM0_1 fullShare d) ∗ (∃ d, owns (c : Thread nD τ) scM0_2 fullShare d) ∗ owns (c : Thread nD τ) scM0_3 fullShare ((outsAt0 m c n hn).2.2.1)) ∗ (∃ r, prngReg c r) ∗ iprop(semVal ((c : Thread nD τ), SemLoc.dma 10) 0) ∗ iprop(emp) ∗ iprop(hbPt0 c hbM0_0 ((outsAt0 m c n hn).2.2.2))) := rfl

/-- Before a point that is not the first: the carried scratch and each result held by value at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ (∃ d, owns (c : Thread nD τ) scM0_1 fullShare d) ∗ (∃ d, owns (c : Thread nD τ) scM0_2 fullShare d) ∗ owns (c : Thread nD τ) scM0_3 fullShare ((outsAt0 m c (n - 1) (by omega)).2.2.1)) ∗ (∃ r, prngReg c r) ∗ iprop(semVal ((c : Thread nD τ), SemLoc.dma 10) 0) ∗ iprop(emp) ∗ iprop(hbPt0 c hbM0_0 ((outsAt0 m c (n - 1) (by omega)).2.2.2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (`PhiS`: Lib/Pipeline/FrameValue.lean `ΦDRG` before the first point — the scoped rest, the generator register, the own cells at zero,
    the HBM operands read and those written at their launch contents —, then the same with each written operand and each carried scratch
    at `outsAt0`'s component for the point before); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the inputs' memrefs hold their blocks (`before0_W`); the closed forms say which case the point is in (`by_cases`), an output the case reads before covering holds what the point before left (`before0_W_κ`); so the
    run applies; the invariant hands the body the carried scratch and each result its copies out write at what the point before left (`PhiS_pos`; at the first point the scratch at anything and the result at its launch contents, `PhiS_zero` opened by `PhiDRG0_in_eq`), the other scratch at anything, the register, its DMA cells at zero and the HBM operands it reads, and takes both back at this point's contents (`PhiS_succ`: a written result as the run's witness `hbw0_κ_N`, the scratch by `scover0_κ_N`), the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 160 := lt_of_lt_of_eq t.isLt (show cfg0.N = 160 from N_0)
  by_cases h0 : t.val % 160 = 0
  · by_cases h1 : t.val % 160 = 159
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      by_cases hz : t.val = 0
      · rw [PhiS_castSucc m c t, PhiS_zero m c _ _ hz, PhiDRG0_in_eq]
        rw [outsAt0_A m c t h0 h1]
        unfold sout0_A_0 sout0_A_3 hbw0_A_0; (try dsimp only)
        iintro ⟨⟨⟨HS0, HS1, HS2, HS3⟩, Hg, Hq0, -, Hh0⟩, ⟨%W, -, HW⟩, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _).2.2.2.2.2.2 _ W _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        isplitl [Hq0]; · iexact Hq0
        isplitl [Hh0]; · iexact Hh0
        isplitl [HW]; · iexact HW
        iintro ⟨H0, H1, H2, H3, H4, H5, ⟨%es0, HS0⟩, ⟨%fT1, HS1⟩, ⟨%fT2, HS2⟩, ⟨%es3, HS3⟩, Hq0, Hh0, ⟨%W', HW'⟩⟩
        isplitl [HS0 HS1 HS2 HS3 Hg Hq0 Hh0]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _)
          isplitl [Hg]
          · iexact Hg
          isplitl [Hq0]
          · iexact Hq0
          isplitr; · iempintro
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        iexists _; iexact H5
      · exfalso; have hN : t.val < 160 := lt_of_lt_of_eq t.isLt (show cfg0.N = 160 from N_0); omega
  · by_cases h1 : t.val % 160 = 159
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      by_cases hz : t.val = 0
      · exfalso; have hN : t.val < 160 := lt_of_lt_of_eq t.isLt (show cfg0.N = 160 from N_0); omega
      · rw [PhiS_castSucc m c t, PhiS_pos m c _ _ hz]
        rw [outsAt0_C m c t h0 h1]
        unfold out0_C_5 sout0_C_0 sout0_C_3 hbw0_C_0; (try dsimp only)
        iintro ⟨⟨⟨HS0, HS1, HS2, HS3⟩, Hg, Hq0, -, Hh0⟩, ⟨%W, -, HW⟩, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _).2.2.2.2.2.2 W _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        isplitl [Hq0]; · iexact Hq0
        isplitl [Hh0]; · iexact Hh0
        isplitl [HW]; · iexact HW
        iintro ⟨H0, H1, H2, H3, H4, ⟨%e5, H5⟩, ⟨%es0, HS0⟩, ⟨%fT1, HS1⟩, ⟨%fT2, HS2⟩, ⟨%es3, HS3⟩, Hq0, Hh0, ⟨%W', HW'⟩⟩
        isplitl [HS0 HS1 HS2 HS3 Hg Hq0 Hh0]
        · isplitl [HS0 HS1 HS2 HS3]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _)
          isplitl [Hg]
          · iexact Hg
          isplitl [Hq0]
          · iexact Hq0
          isplitr; · iempintro
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      by_cases hz : t.val = 0
      · exfalso; have hN : t.val < 160 := lt_of_lt_of_eq t.isLt (show cfg0.N = 160 from N_0); omega
      · rw [PhiS_castSucc m c t, PhiS_pos m c _ _ hz]
        rw [outsAt0_B m c t h0 h1]
        unfold sout0_B_0 sout0_B_3 hbw0_B_0; (try dsimp only)
        iintro ⟨⟨⟨HS0, HS1, HS2, HS3⟩, Hg, Hq0, -, Hh0⟩, ⟨%W, -, HW⟩, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ _).2.2.2.2.2.2 _ W _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        isplitl [Hq0]; · iexact Hq0
        isplitl [Hh0]; · iexact Hh0
        isplitl [HW]; · iexact HW
        iintro ⟨H0, H1, H2, H3, H4, H5, ⟨%es0, HS0⟩, ⟨%fT1, HS1⟩, ⟨%fT2, HS2⟩, ⟨%es3, HS3⟩, Hq0, Hh0, ⟨%W', HW'⟩⟩
        isplitl [HS0 HS1 HS2 HS3 Hg Hq0 Hh0]
        · isplitl [HS0 HS1 HS2 HS3]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · iexists _; unfold owns; iexists _; isplitr
              swap; · iexact HS2
              ipureintro; rfl
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _)
          isplitl [Hg]
          · iexact Hg
          isplitl [Hq0]
          · iexact Hq0
          isplitr; · iempintro
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The results the body's copies out write, AFTER THE LAST POINT, as a valuation of the unscoped buffers: the launch contents,
    updated at each written operand with `outsAt0`'s component for the last point — what the launch takes back from the region
    (Lib/Pipeline/FrameValue.lean `θ_run_frame_dmaRG`'s `G`) and its post states of them. -/
def hbG0 (c : Dev nD) : (b : Ref sig .tc) → Buf (Elt F) ((c : Thread nD τ).loc b) :=
  Function.update ((V m) c) main_v0_0 (outsAt0 m c ((Fin.last cfg0.N).val - 1) (by rw [Fin.val_last]; have : cfg0.N = 160 := N_0; omega)).2.2.2
/-- `hbG0` at `main_v0_0`: `outsAt0`'s component. -/
theorem hbG0_0 (c : Dev nD) : hbG0 m c main_v0_0 = (outsAt0 m c ((Fin.last cfg0.N).val - 1) (by rw [Fin.val_last]; have : cfg0.N = 160 := N_0; omega)).2.2.2 := by
  unfold hbG0; simp only [Function.update_self]
/-- The written operands' points-tos after the last point (`Pipeline.routed` at `hbG`), listed: how the launch takes them back. -/
theorem heldG0_eq (c : Dev nD) :
    (Pipeline.routed R0 c (hbG0 m c) : sProp 𝕄) = iprop(hbPt0 c hbM0_0 ((outsAt0 m c ((Fin.last cfg0.N).val - 1) (by rw [Fin.val_last]; have : cfg0.N = 160 := N_0; omega)).2.2.2)) := by
  unfold Pipeline.routed; rw [BI.bigSep_eq_bigSepL_of_eq [main_v0_0] (by decide) (by decide)]
  simp only [BI.bigSepL_singleton, hbG0_0]; try rfl
/-- The invariant AFTER THE LAST POINT, `Pipeline.ΦDRG` at the launch contents and `hbG0`, conjunct by conjunct: what the launch takes back. -/
theorem PhiDRG0_out_eq (c : Dev nD) :
    (Pipeline.ΦDRG osem0 spec0 H0 R0 (V m) (hbG0 m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 10) 0) ∗ iprop(emp) ∗ iprop(hbPt0 c hbM0_0 ((outsAt0 m c ((Fin.last cfg0.N).val - 1) (by rw [Fin.val_last]; have : cfg0.N = 160 := N_0; omega)).2.2.2))) := by
  rw [Pipeline.ΦDRG_eq, scopedRest0_eq, ownSems00_eq, hbmPts0_eq, heldG0_eq]; simp only [scM0_0, scM0_1, scM0_2, scM0_3, owns_whole]; try rfl

/-- What the launch hands the region (`ΦDRG`) is the invariant before the first point. -/
theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _

/-- The region's invariant before any point. -/
theorem phi_eq (c : Dev nD) (k : Fin (cfg0.N + 1)) : (dats m 0 c).Φ k = PhiS m c k.val (Nat.le_of_lt_succ k.isLt) := rfl

/-- After the last point the invariant gives `ΦDRG` back with each result the copies out write at what that point left in it (`hbG0`);
    the carried scratch's named contents are forgotten. -/
theorem hout (c : Dev nD) : (dats m 0 c).Φ (Fin.last cfg0.N) ⊢ Pipeline.ΦDRG osem0 spec0 H0 R0 (V m) (hbG0 m) c := by
  rw [phi_eq m c,
    PhiS_pos m c _ _ (by rw [Fin.val_last]; have : cfg0.N = 160 := N_0; omega), PhiDRG0_out_eq]
  iintro ⟨⟨HS0, HS1, HS2, HS3⟩, Hg, Hq0, Hh0⟩
  isplitl [HS0 HS1 HS2 HS3]
  · isplitl [HS0]
    · iexists _; iexact HS0
    isplitl [HS1]
    · iexact HS1
    isplitl [HS2]
    · iexact HS2
    iexists _; iexact HS3
  isplitl [Hg]; · iexact Hg
  isplitl [Hq0]
  · iexact Hq0
  iexact Hh0

/-! ## The run and the frame -/

-- `θ_run_frame_dmaRG`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePostRG cfgs (dats m) 0 R0 (V m) (hbG0 m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := hbG0 m)
    (hin := hin m) (hout := hout m)

/-- At the compiled mesh, for any values, from any memory with zero counters: every weakly fair execution of @main on the
    TensorCores terminates, and every final state has every array of the pipeline at what the library computes from the
    proof data, every result the body's copies out write (`R0`) at what the last point left in it (`hbG0`), and every other unscoped
    buffer at its region-entry contents (Lib/Pipeline/FrameValue.lean `FramePostRG`). -/
theorem run_main : θ_run defs (onTc (τ := τ) (main (F := F))) (s₀ m ρ) (Pipeline.FramePostRG cfgs (dats m) 0 R0 (V m) (hbG0 m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.toR) (run_main m ρ))

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.Rows.lean ====
module

public import proofs.«01_k».proof.Proof.Gen.KernelIdeal.Frame.RunC
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Grads

open Cert.KernelIdeal Cert.KernelIdeal.Gen
open Idealize.ShloMosaic Idealize.ShloMosaic.TcCoe Idealize.SL.Sem

theorem sum_28 (g : Fin 28 → EReal) :
    ∑ c, g c = g 0 + g 1 + g 2 + g 3 + g 4 + g 5 + g 6 + g 7 + g 8 + g 9 + g 10 + g 11 + g 12 + g 13 + g 14 + g 15 + g 16 + g 17 + g 18 + g 19 + g 20 + g 21 + g 22 + g 23 + g 24 + g 25 + g 26 + g 27 := by
  simp only [Fin.sum_univ_castSucc, Fin.sum_univ_zero, zero_add]
  rfl

/-- A sum over a row of 3584 elements, lane by lane: the 28 elements of a lane first, then the 128 lanes. -/
theorem sum_lanes (f : Fin 3584 → EReal) :
    ∑ k, f k = ∑ l : Fin 128, (f ⟨l.val, by omega⟩ + f ⟨128 + l.val, by omega⟩ + f ⟨256 + l.val, by omega⟩ + f ⟨384 + l.val, by omega⟩ + f ⟨512 + l.val, by omega⟩ + f ⟨640 + l.val, by omega⟩ + f ⟨768 + l.val, by omega⟩ + f ⟨896 + l.val, by omega⟩ + f ⟨1024 + l.val, by omega⟩ + f ⟨1152 + l.val, by omega⟩ + f ⟨1280 + l.val, by omega⟩ + f ⟨1408 + l.val, by omega⟩ + f ⟨1536 + l.val, by omega⟩ + f ⟨1664 + l.val, by omega⟩ + f ⟨1792 + l.val, by omega⟩ + f ⟨1920 + l.val, by omega⟩ + f ⟨2048 + l.val, by omega⟩ + f ⟨2176 + l.val, by omega⟩ + f ⟨2304 + l.val, by omega⟩ + f ⟨2432 + l.val, by omega⟩ + f ⟨2560 + l.val, by omega⟩ + f ⟨2688 + l.val, by omega⟩ + f ⟨2816 + l.val, by omega⟩ + f ⟨2944 + l.val, by omega⟩ + f ⟨3072 + l.val, by omega⟩ + f ⟨3200 + l.val, by omega⟩ + f ⟨3328 + l.val, by omega⟩ + f ⟨3456 + l.val, by omega⟩) := by
  have e : ∑ k, f k = ∑ c : Fin 28, ∑ l : Fin 128, f ⟨c.val * 128 + l.val, by omega⟩ :=
    (Fin.sum_mul_add_congr (f := f) fun c l hl => rfl).symm
  rw [e, Finset.sum_comm]
  refine Finset.sum_congr rfl fun l _ => ?_
  rw [sum_28]
  simp only [Fin.isValue, Fin.val_zero, Nat.zero_mul, Nat.zero_add]
  rfl

/-- The reciprocal root mean square of row `s`. -/
def rms (x0 : Vec Ideal S256x3584 .bf16) (s : Fin 256) : EReal :=
  Ideal.rsqrt ((∑ k : Fin 3584, x0 (ix2 s k) * x0 (ix2 s k)) * (Named.named κ "inv_d" 965888293#32 : Ideal .f32) + Ideal.ofBits .f32 897988541#32)

/-- What the first loop leaves in its scratch: every lane of row `s` holds the reciprocal root mean square of row `s`. -/
def rmsBlk (x0 : Vec Ideal S256x3584 .bf16) : Vec Ideal S256x128 .f32 := fun y => rms x0 (y 0)

set_option maxHeartbeats 8000000 in
theorem rms_A (c : Dev nD) (arg1 : Memref sig .tc .vmem S256x3584 .bf16) (harg1 : arg1.IsWhole) (x0 : Vec Ideal S256x3584 .bf16) :
    View.canon (kernelRun0_A.sl.HS1_16 c arg1 harg1 x0) = rmsBlk x0 := by
  funext y
  frame_out
  canon_tiles x h
  all_goals
    open_payloads
    pointwise
    unfold rmsBlk
    rw [show rms x0 (y 0) = rms x0 ⟨_, h0.symm.trans_lt (y 0).isLt⟩ from congrArg _ (Fin.ext h0)]
    unfold rms
    rw [sum_lanes]

theorem rms_load_A (c : Dev nD) (arg1 : Memref sig .tc .vmem S256x3584 .bf16) (harg1 : arg1.IsWhole) (arg9 : Memref sig .tc .vmem S256x128 .f32) (x0 : Vec Ideal S256x3584 .bf16)
    (R : Rect S256x128) : arg9.view.readCov (kernelRun0_A.sl.HS1_16 c arg1 harg1 x0) R.toLoadRect = View.ld (rmsBlk x0) R := by
  rw [View.readCov_eq_canon', rms_A]

theorem rms_load_B (c : Dev nD) (arg1 : Memref sig .tc .vmem S256x3584 .bf16) (harg1 : arg1.IsWhole) (arg9 : Memref sig .tc .vmem S256x128 .f32) (x0 : Vec Ideal S256x3584 .bf16)
    (R : Rect S256x128) : arg9.view.readCov (kernelRun0_B.sl.HS1_16 c arg1 harg1 x0) R.toLoadRect = View.ld (rmsBlk x0) R :=
  Eq.trans (by sl_kernel_rfl) (rms_load_A c arg1 harg1 arg9 x0 R)

theorem rms_load_C (c : Dev nD) (arg1 : Memref sig .tc .vmem S256x3584 .bf16) (harg1 : arg1.IsWhole) (arg9 : Memref sig .tc .vmem S256x128 .f32) (x0 : Vec Ideal S256x3584 .bf16)
    (R : Rect S256x128) : arg9.view.readCov (kernelRun0_C.sl.HS1_16 c arg1 harg1 x0) R.toLoadRect = View.ld (rmsBlk x0) R :=
  Eq.trans (by sl_kernel_rfl) (rms_load_A c arg1 harg1 arg9 x0 R)

end Cert.KernelIdeal.Grads
-- ==== Proof.Cols.lean ====
module

public import proofs.«01_k».proof.Proof.Rows
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Grads

open Cert.KernelIdeal Cert.KernelIdeal.Gen
open Idealize.ShloMosaic Idealize.ShloMosaic.TcCoe Idealize.SL.Sem

/-- Where later stores cover an element, earlier ones are not seen. -/
theorem canon_append_of_cover {S : Shape} {e : EltTy} : ∀ (L L' : List (View.Piece (Elt Ideal) S e)) (y : S.Idx),
    (∃ p ∈ L, y ∈ p.1.set) → View.canon (L ++ L') y = View.canon L y
  | [], _, _, hc => by obtain ⟨p, hp, _⟩ := hc; exact absurd hp List.not_mem_nil
  | p :: L, L', y, hc => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_append_of_cover L L' y ?_
      obtain ⟨q, hq, hyq⟩ := hc
      rcases List.mem_cons.mp hq with rfl | hq'
      · exact absurd hyq hm
      · exact ⟨q, hq', hyq⟩

theorem sum_16 (g : Fin 16 → EReal) : ∑ c, g c = g 0 + g 1 + g 2 + g 3 + g 4 + g 5 + g 6 + g 7 + g 8 + g 9 + g 10 + g 11 + g 12 + g 13 + g 14 + g 15 := by
  simp only [Fin.sum_univ_castSucc, Fin.sum_univ_zero, zero_add]
  rfl

/-- The rows of a block that the accumulator's row `j` collects, in the order in which they are added. -/
def strided (f : Fin 256 → EReal) (j : Fin 8) : EReal :=
  (f ⟨j.val, by omega⟩ + f ⟨8 + j.val, by omega⟩) + (f ⟨16 + j.val, by omega⟩ + f ⟨24 + j.val, by omega⟩) + (f ⟨32 + j.val, by omega⟩ + f ⟨40 + j.val, by omega⟩) + (f ⟨48 + j.val, by omega⟩ + f ⟨56 + j.val, by omega⟩) + (f ⟨64 + j.val, by omega⟩ + f ⟨72 + j.val, by omega⟩) + (f ⟨80 + j.val, by omega⟩ + f ⟨88 + j.val, by omega⟩) + (f ⟨96 + j.val, by omega⟩ + f ⟨104 + j.val, by omega⟩) + (f ⟨112 + j.val, by omega⟩ + f ⟨120 + j.val, by omega⟩) + (f ⟨128 + j.val, by omega⟩ + f ⟨136 + j.val, by omega⟩) + (f ⟨144 + j.val, by omega⟩ + f ⟨152 + j.val, by omega⟩) + (f ⟨160 + j.val, by omega⟩ + f ⟨168 + j.val, by omega⟩) + (f ⟨176 + j.val, by omega⟩ + f ⟨184 + j.val, by omega⟩) + (f ⟨192 + j.val, by omega⟩ + f ⟨200 + j.val, by omega⟩) + (f ⟨208 + j.val, by omega⟩ + f ⟨216 + j.val, by omega⟩) + (f ⟨224 + j.val, by omega⟩ + f ⟨232 + j.val, by omega⟩) + (f ⟨240 + j.val, by omega⟩ + f ⟨248 + j.val, by omega⟩)

/-- The eight rows of the accumulator collect every row of the block once. -/
theorem sum_strided (f : Fin 256 → EReal) : ∑ j, strided f j = ∑ s, f s := by
  have e : ∑ s, f s = ∑ g : Fin 16, ∑ r : Fin 16, f ⟨g.val * 16 + r.val, by omega⟩ :=
    (Fin.sum_mul_add_congr (f := f) fun g r hl => rfl).symm
  have e2 : ∀ h : Fin 16 → EReal, ∑ r, h r = ∑ j : Fin 8, (h ⟨j.val, by omega⟩ + h ⟨8 + j.val, by omega⟩) := fun h => by
    rw [Finset.sum_add_distrib]
    exact Fin.sum_univ_add (a := 8) (b := 8) h
  rw [e]
  rw [Finset.sum_congr rfl fun g _ => e2 _, Finset.sum_comm]
  refine Finset.sum_congr rfl fun j _ => ?_
  rw [sum_16]
  unfold strided
  simp only [Fin.isValue, Fin.val_zero, Nat.zero_mul, Nat.zero_add, ← Nat.add_assoc]
  rfl

/-- Row `s` of the output gradient times column `k` of the weight, times the normalised activation. -/
def prod (x0 : Vec Ideal S256x3584 .bf16) (x1 : Vec Ideal S256x1152 .bf16) (x4 : Vec Ideal S1152x3584 .bf16) (k : Fin 3584) (s : Fin 256) : EReal :=
  (∑ o : Fin 1152, x1 (ix2 s o) * x4 (ix2 o k)) * (x0 (ix2 s k) * rms x0 s)

/-- What one point adds to the accumulator of gamma's gradient. -/
def gammaPart (x0 : Vec Ideal S256x3584 .bf16) (x1 : Vec Ideal S256x1152 .bf16) (x4 : Vec Ideal S1152x3584 .bf16) (j : Fin 8) (k : Fin 3584) : EReal :=
  strided (prod x0 x1 x4 k) j

end Cert.KernelIdeal.Grads
-- ==== Proof.Gamma.lean ====
module

public import proofs.«01_k».proof.Proof.Cols
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Grads

open Cert.KernelIdeal Cert.KernelIdeal.Gen
open Idealize.ShloMosaic Idealize.ShloMosaic.TcCoe Idealize.SL.Sem

variable (c : Dev nD) (i : grid0.Coords) (arg1 : Memref sig .tc .vmem S256x3584 .bf16) (harg1 : arg1.IsWhole) (arg2 : Memref sig .tc .vmem S256x1152 .bf16) (harg2 : arg2.IsWhole)
  (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole)
  (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole)
  (arg10 : Memref sig .tc .vmem S1152x256 .bf16) (harg10 : arg10.IsWhole) (arg11 : Memref sig .tc .vmem S8x3584 .f32) (harg11 : arg11.IsWhole)
  (x0 : Vec Ideal S256x3584 .bf16) (x1 : Vec Ideal S256x1152 .bf16) (x2 : Vec Ideal S256x1152 .bf16) (x3 : Vec Ideal S256x3584 .bf16) (x4 : Vec Ideal S1152x3584 .bf16)
  (fw0 : HbBuf0 (F := Ideal) c hbM0_0)

set_option maxHeartbeats 40000000 in
theorem gamma_B (hc0 : ¬cond0_0 i) (hc1 : ¬cond0_1 i) (xs0 : Vec Ideal S1152x3584 .f32) (xs3 : Vec Ideal S8x3584 .f32) (y : S8x3584.Idx) :
    View.canon (kernelRun0_B c i arg1 harg1 arg2 harg2 arg3 harg3 arg4 harg4 arg5 harg5 arg7 harg7 arg8 harg8 arg9 harg9 arg10 harg10 arg11 harg11 hc0 hc1 x0 x1 x2 x3 x4 xs0 xs3 fw0).2.2.1 y = xs3 y + gammaPart x0 x1 x4 (y 0) (y 1) := by
  have hr := rms_load_B c arg1 harg1 arg9 x0
  frame_open at hr
  frame_open
  simp (disch := decide) only [↓ hr, ↓ View.readCov_skip, ↓ View.readCov_cons_toLoadRect, ↓ View.readCov_fill]
  clear hr
  frame_out
  canon_tiles x h
  all_goals
    open_payloads
    pointwise
    simp only [← Nat.add_assoc, Nat.reduceAdd]
    rw [show gammaPart x0 x1 x4 (y 0) (y 1) = gammaPart x0 x1 x4 (x 0) ⟨_, h1.symm.trans_lt (y 1).isLt⟩ from congrArg₂ _ (Fin.ext h0) (Fin.ext h1)]
    unfold gammaPart strided prod rmsBlk
    exact congrArg₂ (· + ·) (by blk_ext []) rfl

set_option maxHeartbeats 40000000 in
theorem gamma_C (hc0 : ¬cond0_0 i) (hc1 : cond0_1 i) (xs0 : Vec Ideal S1152x3584 .f32) (xs3 : Vec Ideal S8x3584 .f32) (y : S8x3584.Idx) :
    View.canon (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).2.2.1 y = xs3 y + gammaPart x0 x1 x4 (y 0) (y 1) := by
  have hr := rms_load_C c arg1 harg1 arg9 x0
  frame_open at hr
  frame_open
  simp (disch := decide) only [↓ hr, ↓ View.readCov_skip, ↓ View.readCov_cons_toLoadRect, ↓ View.readCov_fill]
  clear hr
  frame_out
  canon_tiles x h
  all_goals
    open_payloads
    pointwise
    simp only [← Nat.add_assoc, Nat.reduceAdd]
    rw [show gammaPart x0 x1 x4 (y 0) (y 1) = gammaPart x0 x1 x4 (x 0) ⟨_, h1.symm.trans_lt (y 1).isLt⟩ from congrArg₂ _ (Fin.ext h0) (Fin.ext h1)]
    unfold gammaPart strided prod rmsBlk
    exact congrArg₂ (· + ·) (by blk_ext []) rfl

set_option maxHeartbeats 40000000 in
theorem gamma_A (hc0 : cond0_0 i) (hc1 : ¬cond0_1 i) (y : S8x3584.Idx) :
    View.canon (kernelRun0_A c i arg1 harg1 arg2 harg2 arg3 harg3 arg4 harg4 arg5 harg5 arg7 harg7 arg8 harg8 arg9 harg9 arg10 harg10 arg11 harg11 hc0 hc1 x0 x1 x2 x3 x4 fw0).2.2.1 y = gammaPart x0 x1 x4 (y 0) (y 1) := by
  have hr := rms_load_A c arg1 harg1 arg9 x0
  frame_open at hr
  frame_open
  simp (disch := decide) only [↓ hr, ↓ View.readCov_skip, ↓ View.readCov_cons_toLoadRect, ↓ View.readCov_fill]
  clear hr
  frame_out
  refine (canon_append_of_cover [_, _, _, _, _, _, _, _, _, _, _, _, _, _, _, _, _, _, _, _, _, _, _, _, _, _, _, _] [_] y ?cov).trans ?_
  case cov => exact View.cover_of_tiledL (s := S8x3584) _ S8x128.size (by sl_kernel_rfl) y
  canon_tiles x h
  all_goals
    open_payloads
    pointwise
    simp only [← Nat.add_assoc, Nat.reduceAdd]
    rw [show gammaPart x0 x1 x4 (y 0) (y 1) = gammaPart x0 x1 x4 (x 0) ⟨_, h1.symm.trans_lt (y 1).isLt⟩ from congrArg₂ _ (Fin.ext h0) (Fin.ext h1)]
    unfold gammaPart strided prod rmsBlk
    rfl

end Cert.KernelIdeal.Grads
-- ==== Proof.Weight.lean ====
module

public import proofs.«01_k».proof.Proof.Cols
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Grads

open Cert.KernelIdeal Cert.KernelIdeal.Gen
open Idealize.ShloMosaic Idealize.ShloMosaic.TcCoe Idealize.SL.Sem

variable (c : Dev nD) (i : grid0.Coords) (arg1 : Memref sig .tc .vmem S256x3584 .bf16) (harg1 : arg1.IsWhole) (arg2 : Memref sig .tc .vmem S256x1152 .bf16) (harg2 : arg2.IsWhole)
  (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole)
  (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole)
  (arg10 : Memref sig .tc .vmem S1152x256 .bf16) (harg10 : arg10.IsWhole) (arg11 : Memref sig .tc .vmem S8x3584 .f32) (harg11 : arg11.IsWhole)
  (x0 : Vec Ideal S256x3584 .bf16) (x1 : Vec Ideal S256x1152 .bf16) (x2 : Vec Ideal S256x1152 .bf16) (x3 : Vec Ideal S256x3584 .bf16) (x4 : Vec Ideal S1152x3584 .bf16)
  (fw0 : HbBuf0 (F := Ideal) c hbM0_0)

/-- The block of output gradients with its two axes exchanged: row `o`, column `s`. -/
def turned (x2 : Vec Ideal S256x1152 .bf16) : Vec Ideal S1152x256 .bf16 := fun y => x2 (ix2 (y 1) (y 0))

/-- A load of a whole buffer reads what the stores before it left there. -/
theorem readCov_whole {S : Shape} {e : EltTy} {sp : Space} (v : View sig .tc sp S e) {L : List (View.Piece (Elt Ideal) S e)}
    {off : Fin S.rank → Nat} {inb : ∀ a, off a + S.size a ≤ S.size a} (h : ∀ a, off a = 0) :
    v.readCov L (Rect.unit off (no_index S.size) inb).toLoadRect = View.canon L := by
  rw [View.readCov_eq_canon']
  exact View.ld_unit_lit inb (View.canon L) h

/-- Nine stores of 128 rows each fill the scratch with the turned block. -/
theorem turned_A : View.canon (kernelRun0_A.sl.HS2_9 c arg3 harg3 x2) = turned x2 := by
  funext y
  frame_out
  canon_tiles x h
  all_goals
    open_payloads
    pointwise
    unfold turned
    blk_ext []

theorem turned_load_A : arg10.view.readCov (kernelRun0_A.sl.HS2_9 c arg3 harg3 x2) (Rect.unit ![0, 0] ![1152, 256] inb_S1152x256_S1152x256_0_0).toLoadRect = turned x2 := by
  rw [readCov_whole _ (by decide), turned_A]

theorem turned_load_B : arg10.view.readCov (kernelRun0_B.sl.HS2_9 c arg3 harg3 x2) (Rect.unit ![0, 0] ![1152, 256] inb_S1152x256_S1152x256_0_0).toLoadRect = turned x2 :=
  Eq.trans (by sl_kernel_rfl) (turned_load_A c arg3 harg3 arg10 x2)

theorem turned_load_C : arg10.view.readCov (kernelRun0_C.sl.HS2_9 c arg3 harg3 x2) (Rect.unit ![0, 0] ![1152, 256] inb_S1152x256_S1152x256_0_0).toLoadRect = turned x2 :=
  Eq.trans (by sl_kernel_rfl) (turned_load_A c arg3 harg3 arg10 x2)

/-- What one point adds to the weight gradient. -/
def weightPart (x2 : Vec Ideal S256x1152 .bf16) (x3 : Vec Ideal S256x3584 .bf16) (o : Fin 1152) (k : Fin 3584) : EReal :=
  ∑ s : Fin 256, x2 (ix2 s o) * x3 (ix2 s k)

set_option maxHeartbeats 40000000 in
theorem weight_B (hc0 : ¬cond0_0 i) (hc1 : ¬cond0_1 i) (xs0 : Vec Ideal S1152x3584 .f32) (xs3 : Vec Ideal S8x3584 .f32) (y : S1152x3584.Idx) :
    View.canon (kernelRun0_B c i arg1 harg1 arg2 harg2 arg3 harg3 arg4 harg4 arg5 harg5 arg7 harg7 arg8 harg8 arg9 harg9 arg10 harg10 arg11 harg11 hc0 hc1 x0 x1 x2 x3 x4 xs0 xs3 fw0).2.1 y = xs0 y + weightPart x2 x3 (y 0) (y 1) := by
  have hq := turned_load_B c arg3 harg3 arg10 x2
  frame_open at hq
  frame_open
  simp (disch := decide) only [↓ hq, ↓ View.readCov_skip, ↓ View.readCov_cons_toLoadRect, ↓ View.readCov_fill]
  clear hq
  frame_out
  canon_tiles x h
  all_goals
    open_payloads
    pointwise
    unfold turned weightPart
    exact congrArg₂ (· + ·) (by blk_ext []) (Finset.sum_congr rfl fun s _ => congrArg₂ (· * ·) (by blk_ext []) (by blk_ext []))

set_option maxHeartbeats 40000000 in
theorem weight_C (hc0 : ¬cond0_0 i) (hc1 : cond0_1 i) (xs0 : Vec Ideal S1152x3584 .f32) (xs3 : Vec Ideal S8x3584 .f32) (y : S1152x3584.Idx) :
    View.canon (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).2.1 y = xs0 y + weightPart x2 x3 (y 0) (y 1) := by
  have hq := turned_load_C c arg3 harg3 arg10 x2
  frame_open at hq
  frame_open
  simp (disch := decide) only [↓ hq, ↓ View.readCov_skip, ↓ View.readCov_cons_toLoadRect, ↓ View.readCov_fill]
  clear hq
  frame_out
  canon_tiles x h
  all_goals
    open_payloads
    pointwise
    unfold turned weightPart
    exact congrArg₂ (· + ·) (by blk_ext []) (Finset.sum_congr rfl fun s _ => congrArg₂ (· * ·) (by blk_ext []) (by blk_ext []))

set_option maxHeartbeats 40000000 in
theorem weight_A (hc0 : cond0_0 i) (hc1 : ¬cond0_1 i) (y : S1152x3584.Idx) :
    View.canon (kernelRun0_A c i arg1 harg1 arg2 harg2 arg3 harg3 arg4 harg4 arg5 harg5 arg7 harg7 arg8 harg8 arg9 harg9 arg10 harg10 arg11 harg11 hc0 hc1 x0 x1 x2 x3 x4 fw0).2.1 y = weightPart x2 x3 (y 0) (y 1) := by
  have hq := turned_load_A c arg3 harg3 arg10 x2
  frame_open at hq
  frame_open
  simp (disch := decide) only [↓ hq, ↓ View.readCov_skip, ↓ View.readCov_cons_toLoadRect, ↓ View.readCov_fill]
  clear hq
  frame_out
  refine (canon_append_of_cover [_, _, _, _, _, _, _, _, _, _, _, _, _, _] [_] y ?cov).trans ?_
  case cov => exact View.cover_of_tiledL (s := S1152x3584) _ S1152x256.size (by sl_kernel_rfl) y
  canon_tiles x h
  all_goals
    open_payloads
    pointwise
    unfold turned weightPart
    exact Finset.sum_congr rfl fun s _ => congrArg₂ (· * ·) (by blk_ext []) (by blk_ext [])

end Cert.KernelIdeal.Grads
-- ==== Proof.Edge.lean ====
module

public import proofs.«01_k».proof.Proof.RunIdeal
public import proofs.«01_k».proof.Proof.Gamma
public import proofs.«01_k».proof.Proof.Weight
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Grads

open Cert.KernelIdeal Cert.KernelIdeal.Gen
open Idealize.ShloMosaic Idealize.ShloMosaic.TcCoe Idealize.SL.Sem

theorem rows_sum (a : Vec Ideal S8x3584 .f32) (y : S1x3584.Idx) :
    View.canon [⟨Rect.unit ![0, 0] ![1, 3584] inb_S1x3584_S1x3584_0_0, k0_pay3 a⟩] y = ∑ j : Fin 8, a (ix2 j (y 1)) := by
  canon_tiles x h
  unfold k0_pay3
  pointwise
  exact Finset.sum_congr rfl fun j _ => congrArg a (by blk_ext [])

/-- A one-row buffer that is stored the column sums of an eight-row buffer holds those sums. -/
theorem rows_of (L : List (View.Piece (Elt Ideal) S1x3584 .f32)) (L3 : List (View.Piece (Elt Ideal) S8x3584 .f32)) {sp : Space} (v : View sig .tc sp S8x3584 .f32)
    (hL : L = [⟨Rect.unit ![0, 0] ![1, 3584] inb_S1x3584_S1x3584_0_0, k0_pay3 (v.readCov L3 (Rect.unit ![0, 0] ![8, 3584] inb_S8x3584_S8x3584_0_0).toLoadRect)⟩]) (y : S1x3584.Idx) :
    VO0_5.read (Elt Ideal) (VO0_5.writes (Elt Ideal) VO0_5.junk L) y = ∑ j : Fin 8, VS0_3.read (Elt Ideal) (VS0_3.writes (Elt Ideal) VS0_3.junk L3) (ix2 j (y 1)) := by
  rw [View.read_writes_junk_eq_canon, View.read_writes_junk_eq_canon, hL, readCov_whole _ (by decide)]
  exact rows_sum _ y

/-- A copy of a whole buffer into a result leaves the buffer's contents there. -/
theorem copied_of (c : Dev nD) (L : List (View.Piece (Elt Ideal) S1152x3584 .f32)) (hc : ∀ y, ∃ p ∈ L, y ∈ p.1.set) (arg8 : Memref sig .tc .vmem S1152x3584 .f32) (harg8 : arg8.IsWhole)
    (xs0 : Vec Ideal S1152x3584 .f32) (fw0 W : HbBuf0 (F := Ideal) c hbM0_0)
    (hW : W = View.write (Elt Ideal) (View.whole main_v0_0) fw0 (View.read (Elt Ideal) arg8.view (arg8.view.writes (Elt Ideal) (harg8.unread xs0) L)) Finset.univ) :
    W = VS0_0.read (Elt Ideal) (VS0_0.writes (Elt Ideal) VS0_0.junk L) := by
  rw [View.read_writes_eq_canon VS0_0 _ _ hc, ← View.read_writes_eq_canon arg8.view (harg8.unread xs0) _ hc, hW]
  exact View.write_whole_univ _ _ _

variable (c : Dev nD) (i : grid0.Coords) (arg1 : Memref sig .tc .vmem S256x3584 .bf16) (harg1 : arg1.IsWhole) (arg2 : Memref sig .tc .vmem S256x1152 .bf16) (harg2 : arg2.IsWhole)
  (arg3 : Memref sig .tc .vmem S256x1152 .bf16) (harg3 : arg3.IsWhole) (arg4 : Memref sig .tc .vmem S256x3584 .bf16) (harg4 : arg4.IsWhole) (arg5 : Memref sig .tc .vmem S1152x3584 .bf16) (harg5 : arg5.IsWhole)
  (arg7 : Memref sig .tc .vmem S1x3584 .f32) (harg7 : arg7.IsWhole) (arg8 : Memref sig .tc .vmem S1152x3584 .f32) (harg8 : arg8.IsWhole) (arg9 : Memref sig .tc .vmem S256x128 .f32) (harg9 : arg9.IsWhole)
  (arg10 : Memref sig .tc .vmem S1152x256 .bf16) (harg10 : arg10.IsWhole) (arg11 : Memref sig .tc .vmem S8x3584 .f32) (harg11 : arg11.IsWhole)
  (x0 : Vec Ideal S256x3584 .bf16) (x1 : Vec Ideal S256x1152 .bf16) (x2 : Vec Ideal S256x1152 .bf16) (x3 : Vec Ideal S256x3584 .bf16) (x4 : Vec Ideal S1152x3584 .bf16)
  (fw0 : HbBuf0 (F := Ideal) c hbM0_0)
  (hc0 : ¬cond0_0 i) (hc1 : cond0_1 i) (xs0 : Vec Ideal S1152x3584 .f32) (xs3 : Vec Ideal S8x3584 .f32)

/-- At the last point gamma's gradient is the sum of the accumulator's eight rows. -/
theorem gammaOut_C (y : S1x3584.Idx) :
    out0_C_5 c i arg1 harg1 arg2 harg2 arg3 harg3 arg4 harg4 arg5 harg5 arg7 harg7 arg8 harg8 arg9 harg9 arg10 harg10 arg11 harg11 hc0 hc1 x0 x1 x2 x3 x4 xs0 xs3 fw0 y = ∑ j : Fin 8, sout0_C_3 c i arg1 harg1 arg2 harg2 arg3 harg3 arg4 harg4 arg5 harg5 arg7 harg7 arg8 harg8 arg9 harg9 arg10 harg10 arg11 harg11 hc0 hc1 x0 x1 x2 x3 x4 xs0 xs3 fw0 (ix2 j (y 1)) :=
  rows_of (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).1 (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).2.2.1 arg11.view (by sl_kernel_rfl) y

/-- At the last point the weight gradient's result is written with the accumulator's contents. -/
theorem held_C : hbw0_C_0 c i arg1 harg1 arg2 harg2 arg3 harg3 arg4 harg4 arg5 harg5 arg7 harg7 arg8 harg8 arg9 harg9 arg10 harg10 arg11 harg11 hc0 hc1 x0 x1 x2 x3 x4 xs0 xs3 fw0 = sout0_C_0 c i arg1 harg1 arg2 harg2 arg3 harg3 arg4 harg4 arg5 harg5 arg7 harg7 arg8 harg8 arg9 harg9 arg10 harg10 arg11 harg11 hc0 hc1 x0 x1 x2 x3 x4 xs0 xs3 fw0 :=
  copied_of c (kernelRun0_C c i arg1 harg1 arg2 harg2 arg3 harg3 arg4 harg4 arg5 harg5 arg7 harg7 arg8 harg8 arg9 harg9 arg10 harg10 arg11 harg11 hc0 hc1 x0 x1 x2 x3 x4 xs0 xs3 fw0).2.1 (scover0_C_0 c i arg1 harg1 arg2 harg2 arg3 harg3 arg4 harg4 arg5 harg5 arg7 harg7 arg8 harg8 arg9 harg9 arg10 harg10 arg11 harg11 hc0 hc1 x0 x1 x2 x3 x4 xs0 xs3 fw0) arg8 harg8 xs0 fw0 _ (by sl_kernel_rfl)

end Cert.KernelIdeal.Grads
-- ==== Proof.Fold.lean ====
module

public import proofs.«01_k».proof.Proof.Edge
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Grads

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The blocks that point `t` reads: activations, the two quantised output gradients, the quantised activations, the weight. -/
def xBlk (t : Fin cfg0.N) : Vec Ideal S256x3584 .bf16 := iblk m c 0 t
def dyqBlk (t : Fin cfg0.N) : Vec Ideal S256x1152 .bf16 := iblk m c 1 t
def dqBlk (t : Fin cfg0.N) : Vec Ideal S256x1152 .bf16 := iblk m c 2 t
def xqBlk (t : Fin cfg0.N) : Vec Ideal S256x3584 .bf16 := iblk m c 3 t
def wtBlk (t : Fin cfg0.N) : Vec Ideal S1152x3584 .bf16 := iblk m c 4 t

/-- What point `t` adds to the weight gradient. -/
def wpart (t : Fin cfg0.N) (y : S1152x3584.Idx) : EReal := weightPart (dqBlk m c t) (xqBlk m c t) (y 0) (y 1)
/-- What point `t` adds to the accumulator of gamma's gradient. -/
def gpart (t : Fin cfg0.N) (y : S8x3584.Idx) : EReal := gammaPart (xBlk m c t) (dyqBlk m c t) (wtBlk m c t) (y 0) (y 1)

/-- The first point leaves its own part of the weight gradient. -/
theorem wacc_first (t : Fin cfg0.N) (h : t.val % 160 = 0) (i : S1152x3584.Idx) : (outsAt0 m c t.val t.isLt).2.1 i = wpart m c t i := by
  rw [outsAt0_A m c t h (by omega)]
  dsimp only
  unfold sout0_A_0
  rw [View.read_writes_junk_eq_canon]
  exact weight_A ..

/-- Every later point adds its part of the weight gradient. -/
theorem wacc_step (t : Fin cfg0.N) (h : ¬t.val % 160 = 0) (i : S1152x3584.Idx) :
    (outsAt0 m c t.val t.isLt).2.1 i = (outsAt0 m c (t.val - 1) (Nat.lt_of_le_of_lt (Nat.sub_le _ _) t.isLt)).2.1 i + wpart m c t i := by
  by_cases h1 : t.val % 160 = 159
  · rw [outsAt0_C m c t h h1]
    dsimp only
    unfold sout0_C_0
    rw [View.read_writes_junk_eq_canon]
    exact weight_C ..
  · rw [outsAt0_B m c t h h1]
    dsimp only
    unfold sout0_B_0
    rw [View.read_writes_junk_eq_canon]
    exact weight_B ..

/-- The first point leaves its own part of gamma's gradient. -/
theorem gacc_first (t : Fin cfg0.N) (h : t.val % 160 = 0) (i : S8x3584.Idx) : (outsAt0 m c t.val t.isLt).2.2.1 i = gpart m c t i := by
  rw [outsAt0_A m c t h (by omega)]
  dsimp only
  unfold sout0_A_3
  rw [View.read_writes_junk_eq_canon]
  exact gamma_A ..

/-- Every later point adds its part of gamma's gradient. -/
theorem gacc_step (t : Fin cfg0.N) (h : ¬t.val % 160 = 0) (i : S8x3584.Idx) :
    (outsAt0 m c t.val t.isLt).2.2.1 i = (outsAt0 m c (t.val - 1) (Nat.lt_of_le_of_lt (Nat.sub_le _ _) t.isLt)).2.2.1 i + gpart m c t i := by
  by_cases h1 : t.val % 160 = 159
  · rw [outsAt0_C m c t h h1]
    dsimp only
    unfold sout0_C_3
    rw [View.read_writes_junk_eq_canon]
    exact gamma_C ..
  · rw [outsAt0_B m c t h h1]
    dsimp only
    unfold sout0_B_3
    rw [View.read_writes_junk_eq_canon]
    exact gamma_B ..

/-- After the last point the accumulators hold every point's part. -/
theorem wacc_last (t : Fin cfg0.N) (ht : t.val = 159) (y : S1152x3584.Idx) :
    (outsAt0 m c t.val t.isLt).2.1 y = 0 + ∑ p : Fin cfg0.N, wpart m c p y := by
  have hN : cfg0.N = 160 := N_0
  exact Pipeline.eq_sum_fin_of_reset_step_apply_last (fun n h => (outsAt0 m c n h).2.1) 160 (fun _ => (0 : EReal)) (wpart m c)
    (fun t h i => (wacc_first m c t h i).trans (zero_add _).symm) (fun t h i => wacc_step m c t h i) hN.le t (by omega) y

theorem gacc_last (t : Fin cfg0.N) (ht : t.val = 159) (y : S8x3584.Idx) :
    (outsAt0 m c t.val t.isLt).2.2.1 y = 0 + ∑ p : Fin cfg0.N, gpart m c p y := by
  have hN : cfg0.N = 160 := N_0
  exact Pipeline.eq_sum_fin_of_reset_step_apply_last (fun n h => (outsAt0 m c n h).2.2.1) 160 (fun _ => (0 : EReal)) (gpart m c)
    (fun t h i => (gacc_first m c t h i).trans (zero_add _).symm) (fun t h i => gacc_step m c t h i) hN.le t (by omega) y

/-- At the last point the weight gradient's result is written with the accumulator's contents. -/
theorem held_last (t : Fin cfg0.N) (ht : t.val = 159) : (outsAt0 m c t.val t.isLt).2.2.2 = (outsAt0 m c t.val t.isLt).2.1 := by
  rw [outsAt0_C m c t (by omega) (by omega)]
  dsimp only
  exact held_C ..

/-- At the last point gamma's gradient is written with the column sums of its accumulator. -/
theorem sums_last (t : Fin cfg0.N) (ht : t.val = 159) (y : S1x3584.Idx) :
    (outsAt0 m c t.val t.isLt).1 y = ∑ j : Fin 8, (outsAt0 m c t.val t.isLt).2.2.1 (ix2 j (y 1)) := by
  rw [outsAt0_C m c t (by omega) (by omega)]
  dsimp only
  exact gammaOut_C ..

/-- The first result array ends holding every point's part of the weight gradient. -/
theorem weight_eq (y : S1152x3584.Idx) : hbG0 m c main_v0_0 y = 0 + ∑ p : Fin cfg0.N, wpart m c p y := by
  have hN : cfg0.N = 160 := N_0
  have key : ∀ (n : ℕ) (hn : n < cfg0.N), n = 159 → (outsAt0 m c n hn).2.2.2 y = 0 + ∑ p : Fin cfg0.N, wpart m c p y :=
    fun n hn h => (congrFun (held_last m c ⟨n, hn⟩ h) y).trans (wacc_last m c ⟨n, hn⟩ h y)
  rw [hbG0_0]
  exact key _ _ (by rw [Fin.val_last]; omega)

/-- The second result at an element: every point's products, row by row. -/
def gammaSum (k : Fin 3584) : EReal := ∑ p : Fin cfg0.N, ∑ s : Fin 256, prod (xBlk m c p) (dyqBlk m c p) (wtBlk m c p) k s

theorem gamma_last (t : Fin cfg0.N) (ht : t.val = 159) (y : S1x3584.Idx) : (outsAt0 m c t.val t.isLt).1 y = gammaSum m c (y 1) := by
  rw [sums_last m c t ht]
  unfold gammaSum
  rw [Finset.sum_congr rfl fun j _ => (gacc_last m c t ht (ix2 j (y 1))).trans (zero_add _), Finset.sum_comm]
  refine Finset.sum_congr rfl fun p _ => (Finset.sum_congr rfl fun j _ => ?_).trans (sum_strided (prod (xBlk m c p) (dyqBlk m c p) (wtBlk m c p) (y 1)))
  unfold gpart gammaPart
  rfl

theorem idx0 (t : Fin grid0.N) : win0_0.index t = ![t.val, 0] := (by decide +kernel : ∀ t : Fin grid0.N, win0_0.index t = ![t.val, 0]) t
theorem idx1 (t : Fin grid0.N) : win0_1.index t = ![t.val, 0] := (by decide +kernel : ∀ t : Fin grid0.N, win0_1.index t = ![t.val, 0]) t
theorem idx2 (t : Fin grid0.N) : win0_2.index t = ![t.val, 0] := (by decide +kernel : ∀ t : Fin grid0.N, win0_2.index t = ![t.val, 0]) t
theorem idx3 (t : Fin grid0.N) : win0_3.index t = ![t.val, 0] := (by decide +kernel : ∀ t : Fin grid0.N, win0_3.index t = ![t.val, 0]) t
theorem idx4 (t : Fin grid0.N) : win0_4.index t = ![0, 0] := (by decide +kernel : ∀ t : Fin grid0.N, win0_4.index t = ![0, 0]) t
theorem idx5 (t : Fin grid0.N) : win0_5.index t = ![0, 0] := (by decide +kernel : ∀ t : Fin grid0.N, win0_5.index t = ![0, 0]) t

/-- The second result array ends holding the column sums. -/
theorem gamma_eq : (dats m 0 c).arrAt 5 cfg0.N = fun y : S1x3584.Idx => gammaSum m c (y 1) := by
  have hN : cfg0.N = 160 := N_0
  refine (dats m 0 c).arrAt_eq_of_covers 5 _ (by decide +kernel) fun t hf y => ?_
  have ht : t.val = 159 := by have := (flush0_5 t).mp hf; have := t.isLt; omega
  blk_simp
  rw [after0_5, gamma_last m c t ht]
  exact congrArg (gammaSum m c) (Fin.ext (by blk_simp [idx5 t]))

/-- The weight gradient at an element: the sum over all rows. -/
theorem weight_apply (A2 : Vec Ideal S40960x1152 .bf16) (A3 : Vec Ideal S40960x3584 .bf16)
    (h2 : m ((c.tc : Thread nD τ).loc main_arg2) = A2) (h3 : m ((c.tc : Thread nD τ).loc main_arg3) = A3) (y : S1152x3584.Idx) :
    hbG0 m c main_v0_0 y = ∑ k : Fin 40960, A2 (ix2 k (y 0)) * A3 (ix2 k (y 1)) := by
  rw [weight_eq, zero_add]
  unfold wpart weightPart
  refine Fin.sum_mul_add_congr (f := fun k : Fin 40960 => A2 (ix2 k (y 0)) * A3 (ix2 k (y 1))) fun t s hl => ?_
  subst h2 h3
  exact congrArg₂ (· * ·) (by unfold dqBlk; blk_ext [iblk, V, idx2 t]) (by unfold xqBlk; blk_ext [iblk, V, idx3 t])

/-- The reciprocal root mean square of row `r` of the activations. -/
def rmsRow (A0 : Vec Ideal S40960x3584 .bf16) (r : Fin 40960) : EReal :=
  Ideal.rsqrt ((∑ k : Fin 3584, A0 (ix2 r k) * A0 (ix2 r k)) * (Named.named κ "inv_d" 965888293#32 : Ideal .f32) + Ideal.ofBits .f32 897988541#32)

/-- Gamma's gradient at an element: the sum over all rows of the product's row times the normalised activation. -/
theorem gamma_apply (A0 : Vec Ideal S40960x3584 .bf16) (A1 : Vec Ideal S40960x1152 .bf16) (A4 : Vec Ideal S1152x3584 .bf16)
    (h0 : m ((c.tc : Thread nD τ).loc main_arg0) = A0) (h1 : m ((c.tc : Thread nD τ).loc main_arg1) = A1) (h4 : m ((c.tc : Thread nD τ).loc main_arg4) = A4) (k : Fin 3584) :
    gammaSum m c k = ∑ r : Fin 40960, (∑ o : Fin 1152, A1 (ix2 r o) * A4 (ix2 o k)) * (A0 (ix2 r k) * rmsRow A0 r) := by
  unfold gammaSum prod
  refine Fin.sum_mul_add_congr (f := fun r : Fin 40960 => (∑ o : Fin 1152, A1 (ix2 r o) * A4 (ix2 o k)) * (A0 (ix2 r k) * rmsRow A0 r)) fun t s hl => ?_
  subst h0 h1 h4
  have hx : ∀ l : Fin 3584, xBlk m c t (ix2 s l) = m ((c.tc : Thread nD τ).loc main_arg0) (ix2 ⟨t.val * 256 + s.val, hl⟩ l) := fun l => by
    unfold xBlk; blk_ext [iblk, V, idx0 t]
  refine congrArg₂ (· * ·) (Finset.sum_congr rfl fun o _ => congrArg₂ (· * ·) (by unfold dyqBlk; blk_ext [iblk, V, idx1 t]) (by unfold wtBlk; blk_ext [iblk, V, idx4 t])) (congrArg₂ (· * ·) (hx k) ?_)
  unfold rms rmsRow
  simp only [hx]

end Cert.KernelIdeal.Grads
-- ==== Proof.Mean.lean ====
module

public import proofs.«01_k».proof.Proof.Rows
public import Idealize.ShloMosaic.Lib.Pointwise

@[expose] public section

noncomputable section

namespace Cert.KernelIdeal.Grads

open Cert.KernelIdeal Cert.KernelIdeal.Gen
open Idealize.ShloMosaic Idealize.ShloMosaic.TcCoe Idealize.SL.Sem

theorem width_eq : Ideal.ofBits .f32 1163919360#32 = ((3584 : ℝ) : EReal) := by
  simp [Ideal.ofBits, Ideal.ieee, -EReal.coe_mul]; norm_num

/-- Multiplying by the constant named for one over the row length divides by the row length. -/
theorem mean_eq (a : EReal) : a * (Named.named κ "inv_d" 965888293#32 : Ideal .f32) = Ideal.div a (Ideal.ofBits .f32 1163919360#32) := by
  rw [show (Named.named κ "inv_d" 965888293#32 : Ideal .f32) = ((1 / 3584 : ℝ) : EReal) from IdealRules.named_const.ideal_named_scalar _ _ _ _ rfl, width_eq,
    Ideal.div_coe (by norm_num : (3584 : ℝ) ≠ 0)]

end Cert.KernelIdeal.Grads
-- ==== Proof.lean ====
/- The proof of the claims: the frames of the kernel, of its idealisation and of the reference; that the idealised
   constant is the constant it names; and that at the reals the kernel's two gradients are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.RunBits
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.RunIdeal
public import proofs.«01_k».proof.Proof.Fold
public import proofs.«01_k».proof.Proof.Mean
public import proofs.«01_k».proof.Proof.Gen.ReferenceIdeal.Run
public import proofs.«01_k».proof.Proof.Gen.ReferenceIdeal
public import Idealize.ShloMosaic.Lib.Pointwise
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's run: its two results, and the arguments unchanged. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v0_0) = Cert.KernelIdeal.Gen.hbG0 m c Cert.KernelIdeal.main_v0_0
      ∧ r.2.mem ((c.tc : Thread Cert.KernelIdeal.nD Cert.KernelIdeal.τ).loc Cert.KernelIdeal.main_v0_1) = (fun y => Cert.KernelIdeal.Grads.gammaSum m c (y 1) : Vec Ideal S1x3584 .f32)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run _ _ _).mono (fun r h c => ⟨h.1.2 c _ (by decide), ((h.1.1 c).1 5).trans (Cert.KernelIdeal.Grads.gamma_eq m c), h.2 c⟩)
    (θ_run_and (Cert.KernelIdeal.Gen.run_main m g) (Cert.KernelIdeal.Gen.unchanged m g))

/-- At the reals the kernel's gradients are the reference's. -/
theorem algebraic : Cert.algebraic_KernelIdeal_ReferenceIdeal := by
  intro m g m' g' _ hagree
  refine ⟨fun c => Cert.KernelIdeal.Gen.hbG0 m c Cert.KernelIdeal.main_v0_0, fun c => (fun y => Cert.KernelIdeal.Grads.gammaSum m c (y 1) : Vec Ideal S1x3584 .f32),
    kernel_run m g, (θ_run Cert.ReferenceIdeal.defs _ _).mono (fun r h c => ⟨(h c).1.trans ?_, (h c).2.1.trans ?_, (h c).2.2⟩) (Cert.ReferenceIdeal.Value.run m' g')⟩
  · funext y
    refine Eq.trans ?_ (Cert.KernelIdeal.Grads.weight_apply m c _ _ (hagree c).2.2.1.symm (hagree c).2.2.2.1.symm y).symm
    pointwise
  · funext y
    refine Eq.trans ?_ (Cert.KernelIdeal.Grads.gamma_apply m c _ _ _ (hagree c).1.symm (hagree c).2.1.symm (hagree c).2.2.2.2.symm (y 1)).symm
    pointwise
    refine Finset.sum_congr rfl fun r _ => congrArg₂ (fun a b : EReal => a * b) rfl (congrArg₂ (fun a b : EReal => a * b) rfl ?_)
    unfold Cert.KernelIdeal.Grads.rmsRow
    rw [Cert.KernelIdeal.Grads.mean_eq]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => (θ_run _ _ _).mono (fun r h => ⟨fun c => (h c).2.2, sem_eq_zero_of_no_sems rfl _⟩) (Cert.ReferenceIdeal.Value.run m ρ),
  IdealRules.named_const.statement Cert.KernelIdeal.κ "inv_d" .f32 0x39924925#32 ((1 / 3584 : ℝ) : EReal) rfl, algebraic⟩

end Cert.Proof

end
